-- ==== Defs.lean ====
def Pre_Kernel (m : (ℓ : Loc Cert.Kernel.nD Cert.Kernel.τ Cert.Kernel.sig) → Buf (Elt Bits) ℓ) : Prop :=
  True

def Pre_Kernel_fresh_prefill [hPre_fresh_prefill : Cert.Pre_fresh_prefill.Facts] (m : (ℓ : Loc Cert.Kernel.nD Cert.Kernel.τ Cert.Kernel.sig) → Buf (Elt Bits) ℓ) : Prop :=
  ∀ c : Dev Cert.Kernel.nD,
    (Cert.Pre_fresh_prefill.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal (m : (ℓ : Loc Cert.KernelIdeal.nD Cert.KernelIdeal.τ Cert.KernelIdeal.sig) → Buf (Elt Ideal) ℓ) : Prop :=
  True

def Pre_KernelIdeal_prefill_positions [hPre_prefill_positions : Cert.Pre_prefill_positions.Facts] (m : (ℓ : Loc Cert.KernelIdeal.nD Cert.KernelIdeal.τ Cert.KernelIdeal.sig) → Buf (Elt Ideal) ℓ) : Prop :=
  ∀ c : Dev Cert.KernelIdeal.nD,
    (Cert.Pre_prefill_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_Reference (m : (ℓ : Loc Cert.Reference.nD Cert.Reference.τ Cert.Reference.sig) → Buf (Elt Bits) ℓ) : Prop :=
  True

def Pre_Reference_fresh_prefill [hPre_fresh_prefill : Cert.Pre_fresh_prefill.Facts] (m : (ℓ : Loc Cert.Reference.nD Cert.Reference.τ Cert.Reference.sig) → Buf (Elt Bits) ℓ) : Prop :=
  ∀ c : Dev Cert.Reference.nD,
    (Cert.Pre_fresh_prefill.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prefill_positions [hPre_prefill_positions : Cert.Pre_prefill_positions.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prefill_positions.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel_pre_fresh_prefill [hKernel : Cert.Kernel.Facts] [hPre_fresh_prefill : Cert.Pre_fresh_prefill.Facts] : Prop :=
  ∀ (m : (ℓ : Loc Cert.Kernel.nD Cert.Kernel.τ Cert.Kernel.sig) → Buf (Elt Bits) ℓ) (g : Dev Cert.Kernel.nD → PrngReg), Pre_Kernel_fresh_prefill m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_prefill_positions [hKernelIdeal : Cert.KernelIdeal.Facts] [hPre_prefill_positions : Cert.Pre_prefill_positions.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_prefill_positions m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Reference_pre_fresh_prefill [hReference : Cert.Reference.Facts] [hPre_fresh_prefill : Cert.Pre_fresh_prefill.Facts] : Prop :=
  ∀ (m : (ℓ : Loc Cert.Reference.nD Cert.Reference.τ Cert.Reference.sig) → Buf (Elt Bits) ℓ) (g : Dev Cert.Reference.nD → PrngReg), Pre_Reference_fresh_prefill m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_prefill_positions [hReferenceIdeal : Cert.ReferenceIdeal.Facts] [hPre_prefill_positions : Cert.Pre_prefill_positions.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prefill_positions m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def bitexact_Kernel_Reference_pre_fresh_prefill [hKernel : Cert.Kernel.Facts] [hReference : Cert.Reference.Facts] [hPre_fresh_prefill : Cert.Pre_fresh_prefill.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_fresh_prefill m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v4)) (v1 : (c : Dev Cert.Kernel.nD) → Buf (Elt Bits) ((c.tc : Thread Cert.Kernel.nD Cert.Kernel.τ).loc Cert.Kernel.main_v5)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_v5) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_v13) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def algebraic_KernelIdeal_ReferenceIdeal_on_new_rows_pre_prefill_positions [hKernelIdeal : Cert.KernelIdeal.Facts] [hReferenceIdeal : Cert.ReferenceIdeal.Facts] [hPre_prefill_positions : Cert.Pre_prefill_positions.Facts] [hOn_new_rows : Cert.On_new_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_prefill_positions m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          (∀ i : (⟨4, ![16, 16, 2048, 128]⟩ : Shape).Idx, (Cert.On_new_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v4) i = v0 c i)
          ∧ (∀ i : (⟨4, ![16, 16, 2048, 128]⟩ : Shape).Idx, (Cert.On_new_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v5) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![16, 16, 2048, 128]⟩ : Shape).Idx, (Cert.On_new_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v6) i = v0 c i)
          ∧ (∀ i : (⟨4, ![16, 16, 2048, 128]⟩ : Shape).Idx, (Cert.On_new_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v13) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReference : Cert.Reference.Facts) (hReferenceIdeal : Cert.ReferenceIdeal.Facts) (hPre_fresh_prefill : Cert.Pre_fresh_prefill.Facts) (hPre_prefill_positions : Cert.Pre_prefill_positions.Facts) (hOn_new_rows : Cert.On_new_rows.Facts),
    quiescent_Kernel (hKernel := hKernel)
    ∧ quiescent_Kernel_pre_fresh_prefill (hKernel := hKernel) (hPre_fresh_prefill := hPre_fresh_prefill)
    ∧ quiescent_KernelIdeal (hKernelIdeal := hKernelIdeal)
    ∧ quiescent_KernelIdeal_pre_prefill_positions (hKernelIdeal := hKernelIdeal) (hPre_prefill_positions := hPre_prefill_positions)
    ∧ quiescent_Reference (hReference := hReference)
    ∧ quiescent_Reference_pre_fresh_prefill (hReference := hReference) (hPre_fresh_prefill := hPre_fresh_prefill)
    ∧ quiescent_ReferenceIdeal (hReferenceIdeal := hReferenceIdeal)
    ∧ quiescent_ReferenceIdeal_pre_prefill_positions (hReferenceIdeal := hReferenceIdeal) (hPre_prefill_positions := hPre_prefill_positions)
    ∧ preserves_Kernel_KernelIdeal
    ∧ bitexact_Kernel_Reference_pre_fresh_prefill (hKernel := hKernel) (hReference := hReference) (hPre_fresh_prefill := hPre_fresh_prefill)
    ∧ algebraic_KernelIdeal_ReferenceIdeal_on_new_rows_pre_prefill_positions (hKernelIdeal := hKernelIdeal) (hReferenceIdeal := hReferenceIdeal) (hPre_prefill_positions := hPre_prefill_positions) (hOn_new_rows := hOn_new_rows)
-- ==== On_new_rows.lean ====
abbrev S16x16x2048x128 : Shape := ⟨4, ![16, 16, 2048, 128]⟩
abbrev S32 : Shape := ⟨1, ![32]⟩
abbrev S16x16x32x128 : Shape := ⟨4, ![16, 16, 32, 128]⟩
abbrev S_ : Shape := ⟨0, ![]⟩

class Facts : Prop where
  bcast_S_S16x16x2048x128 : S_.BroadcastsInDim S16x16x2048x128 (![] : Fin 0 → Fin S16x16x2048x128.rank)

variable [Facts]

def fn {F : FTy → Type} [FloatOps F] (main_arg0 : FVec F S16x16x2048x128 .f16) (main_arg1 : FVec F S16x16x2048x128 .f16) (main_arg2 : IVec S32 32) (main_arg3 : FVec F S16x16x32x128 .f16) (main_arg4 : FVec F S16x16x32x128 .f16) : IVec S16x16x2048x128 1 × IVec S16x16x2048x128 1 :=
  let main_v0 : IVec S16x16x2048x128 32 := iotaInDim S16x16x2048x128 32 2
  let main_c : IVec S_ 32 := constantI S_ 32 32#32
  let main_v1 : IVec S16x16x2048x128 32 := broadcastInDim S16x16x2048x128 ![] bcast_S_S16x16x2048x128 main_c
  let main_v2 : IVec S16x16x2048x128 1 := cmpi .slt main_v0 main_v1
  (main_v2, main_v2)
-- ==== Pre_fresh_prefill.lean ====
abbrev S16x16x2048x128 : Shape := ⟨4, ![16, 16, 2048, 128]⟩
abbrev S32 : Shape := ⟨1, ![32]⟩
abbrev S16x16x32x128 : Shape := ⟨4, ![16, 16, 32, 128]⟩
abbrev S1x1x1008x128 : Shape := ⟨4, ![1, 1, 1008, 128]⟩
abbrev S1008x128 : Shape := ⟨2, ![1008, 128]⟩
abbrev S16x16x1008x128 : Shape := ⟨4, ![16, 16, 1008, 128]⟩
abbrev S_ : Shape := ⟨0, ![]⟩

class Facts : Prop where
  slices_S16x16x2048x128_S1x1x1008x128_0_0_0_0 : S16x16x2048x128.Slices ![0, 0, 0, 0] S1x1x1008x128
  shapeCasts_S1x1x1008x128_S1008x128 : S1x1x1008x128.ShapeCasts S1008x128
  bcast_S1008x128_S16x16x1008x128_2_3 : S1008x128.BroadcastsInDim S16x16x1008x128 (![2, 3] : Fin 2 → Fin S16x16x1008x128.rank)
  reducesTo_S32_S_d0 : S32.ReducesTo [0] S_
  h_S_ : 0 < S_.numel
  slices_S16x16x2048x128_S16x16x1008x128_0_0_32_0 : S16x16x2048x128.Slices ![0, 0, 32, 0] S16x16x1008x128
  reducesTo_S16x16x1008x128_S_d0_1_2_3 : S16x16x1008x128.ReducesTo [0, 1, 2, 3] S_
  slices_S16x16x2048x128_S16x16x1008x128_0_0_1040_0 : S16x16x2048x128.Slices ![0, 0, 1040, 0] S16x16x1008x128

variable [Facts]

def fn_part1 {F : FTy → Type} [BitOps F] (main_v1 : IVec S16x16x2048x128 16) (main_v4 : IVec S16x16x1008x128 16) (main_v19 : IVec S_ 1) : IVec S_ 1 :=
  let main_v20 : IVec S16x16x1008x128 16 := (extractStridedSlice S16x16x1008x128 ![0, 0, 1040, 0] · slices_S16x16x2048x128_S16x16x1008x128_0_0_1040_0) main_v1
  let main_v21 : IVec S16x16x1008x128 1 := cmpi .eq main_v20 main_v4
  let main_c_3 : IVec S_ 1 := constantI S_ 1 1#1
  let main_v22 : IVec S_ 1 := (fun x v => Host.reduce IntOp.andi x v reducesTo_S16x16x1008x128_S_d0_1_2_3 h_S_) main_v21 main_c_3
  let main_v23 : IVec S_ 1 := andi main_v19 main_v22
  main_v23

def fn {F : FTy → Type} [BitOps F] (main_arg0 : FVec F S16x16x2048x128 .f16) (main_arg1 : FVec F S16x16x2048x128 .f16) (main_arg2 : IVec S32 32) (main_arg3 : FVec F S16x16x32x128 .f16) (main_arg4 : FVec F S16x16x32x128 .f16) : IVec S_ 1 :=
  let main_v0 : IVec S16x16x2048x128 16 := bitcastToInt main_arg0
  let main_v1 : IVec S16x16x2048x128 16 := bitcastToInt main_arg1
  let main_v2 : IVec S1x1x1008x128 16 := (extractStridedSlice S1x1x1008x128 ![0, 0, 0, 0] · slices_S16x16x2048x128_S1x1x1008x128_0_0_0_0) main_v0
  let main_v3 : IVec S1008x128 16 := shapeCast S1008x128 main_v2 shapeCasts_S1x1x1008x128_S1008x128
  let main_v4 : IVec S16x16x1008x128 16 := broadcastInDim S16x16x1008x128 ![2, 3] bcast_S1008x128_S16x16x1008x128_2_3 main_v3
  let main_v5 : IVec S32 32 := iotaInDim S32 32 0
  let main_v6 : IVec S32 1 := cmpi .eq main_arg2 main_v5
  let main_c : IVec S_ 1 := constantI S_ 1 1#1
  let main_v7 : IVec S_ 1 := (fun x v => Host.reduce IntOp.andi x v reducesTo_S32_S_d0 h_S_) main_v6 main_c
  let main_v8 : IVec S16x16x1008x128 16 := (extractStridedSlice S16x16x1008x128 ![0, 0, 32, 0] · slices_S16x16x2048x128_S16x16x1008x128_0_0_32_0) main_v0
  let main_v9 : IVec S16x16x1008x128 1 := cmpi .eq main_v8 main_v4
  let main_c_0 : IVec S_ 1 := constantI S_ 1 1#1
  let main_v10 : IVec S_ 1 := (fun x v => Host.reduce IntOp.andi x v reducesTo_S16x16x1008x128_S_d0_1_2_3 h_S_) main_v9 main_c_0
  let main_v11 : IVec S_ 1 := andi main_v7 main_v10
  let main_v12 : IVec S16x16x1008x128 16 := (extractStridedSlice S16x16x1008x128 ![0, 0, 1040, 0] · slices_S16x16x2048x128_S16x16x1008x128_0_0_1040_0) main_v0
  let main_v13 : IVec S16x16x1008x128 1 := cmpi .eq main_v12 main_v4
  let main_c_1 : IVec S_ 1 := constantI S_ 1 1#1
  let main_v14 : IVec S_ 1 := (fun x v => Host.reduce IntOp.andi x v reducesTo_S16x16x1008x128_S_d0_1_2_3 h_S_) main_v13 main_c_1
  let main_v15 : IVec S_ 1 := andi main_v11 main_v14
  let main_v16 : IVec S16x16x1008x128 16 := (extractStridedSlice S16x16x1008x128 ![0, 0, 32, 0] · slices_S16x16x2048x128_S16x16x1008x128_0_0_32_0) main_v1
  let main_v17 : IVec S16x16x1008x128 1 := cmpi .eq main_v16 main_v4
  let main_c_2 : IVec S_ 1 := constantI S_ 1 1#1
  let main_v18 : IVec S_ 1 := (fun x v => Host.reduce IntOp.andi x v reducesTo_S16x16x1008x128_S_d0_1_2_3 h_S_) main_v17 main_c_2
  let main_v19 : IVec S_ 1 := andi main_v15 main_v18
  fn_part1 (F := F) main_v1 main_v4 main_v19
-- ==== Pre_prefill_positions.lean ====
abbrev S16x16x2048x128 : Shape := ⟨4, ![16, 16, 2048, 128]⟩
abbrev S32 : Shape := ⟨1, ![32]⟩
abbrev S16x16x32x128 : Shape := ⟨4, ![16, 16, 32, 128]⟩
abbrev S_ : Shape := ⟨0, ![]⟩

class Facts : Prop where
  reducesTo_S32_S_d0 : S32.ReducesTo [0] S_
  h_S_ : 0 < S_.numel

variable [Facts]

def fn {F : FTy → Type} [FloatOps F] (main_arg0 : FVec F S16x16x2048x128 .f16) (main_arg1 : FVec F S16x16x2048x128 .f16) (main_arg2 : IVec S32 32) (main_arg3 : FVec F S16x16x32x128 .f16) (main_arg4 : FVec F S16x16x32x128 .f16) : IVec S_ 1 :=
  let main_v0 : IVec S32 32 := iotaInDim S32 32 0
  let main_v1 : IVec S32 1 := cmpi .eq main_arg2 main_v0
  let main_c : IVec S_ 1 := constantI S_ 1 1#1
  let main_v2 : IVec S_ 1 := (fun x v => Host.reduce IntOp.andi x v reducesTo_S32_S_d0 h_S_) main_v1 main_c
  main_v2
-- ==== Kernel.lean ====
abbrev S16x16x2048x128 : Shape := ⟨4, ![16, 16, 2048, 128]⟩
abbrev S32 : Shape := ⟨1, ![32]⟩
abbrev S16x16x32x128 : Shape := ⟨4, ![16, 16, 32, 128]⟩
abbrev S256x2048x128 : Shape := ⟨3, ![256, 2048, 128]⟩
abbrev S256x32x128 : Shape := ⟨3, ![256, 32, 128]⟩
abbrev S1008x128 : Shape := ⟨2, ![1008, 128]⟩
abbrev S8x32x128 : Shape := ⟨3, ![8, 32, 128]⟩
abbrev S_ : Shape := ⟨0, ![]⟩
abbrev S1x1008x128 : Shape := ⟨3, ![1, 1008, 128]⟩

abbrev nBuf : Table → Nat
  | .hbm => 12
  | .local .scVector .vmem => 3
  | _ => 0

abbrev bufTy : (tb : Table) → Fin (nBuf tb) → BufTy
  | .hbm, ⟨0, _⟩ => ⟨S16x16x2048x128, .f16⟩
  | .hbm, ⟨1, _⟩ => ⟨S16x16x2048x128, .f16⟩
  | .hbm, ⟨2, _⟩ => ⟨S32, .i32⟩
  | .hbm, ⟨3, _⟩ => ⟨S16x16x32x128, .f16⟩
  | .hbm, ⟨4, _⟩ => ⟨S16x16x32x128, .f16⟩
  | .hbm, ⟨5, _⟩ => ⟨S256x2048x128, .f16⟩
  | .hbm, ⟨6, _⟩ => ⟨S256x32x128, .f16⟩
  | .hbm, ⟨7, _⟩ => ⟨S256x32x128, .f16⟩
  | .hbm, ⟨8, _⟩ => ⟨S256x2048x128, .f16⟩
  | .hbm, ⟨9, _⟩ => ⟨S256x2048x128, .f16⟩
  | .hbm, ⟨10, _⟩ => ⟨S16x16x2048x128, .f16⟩
  | .hbm, ⟨11, _⟩ => ⟨S16x16x2048x128, .f16⟩
  | .local .scVector .vmem, ⟨0, _⟩ => ⟨S1008x128, .f16⟩
  | .local .scVector .vmem, ⟨1, _⟩ => ⟨S8x32x128, .f16⟩
  | .local .scVector .vmem, ⟨2, _⟩ => ⟨S8x32x128, .f16⟩
  | _, _ => ⟨S16x16x2048x128, .f16⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v0_scv : Ref sig .scVector := ⟨.hbm, 5, rfl⟩
abbrev main_v1_scv : Ref sig .scVector := ⟨.hbm, 6, rfl⟩
abbrev main_v2_scv : Ref sig .scVector := ⟨.hbm, 7, rfl⟩
abbrev main_v3_0_scv : Ref sig .scVector := ⟨.hbm, 8, rfl⟩
abbrev main_v3_1_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_4 : BitVec 32 := 0#32
  let c0_i32_5 : BitVec 32 := 0#32
  ![v2.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_25 : BitVec 32 := 0#32
  let c0_i32_26 : BitVec 32 := 0#32
  ![v2.toNat, 0, 0]
def k0_off3 (i : grid0.Coords) (c0_i32_33 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v23 : BitVec 32 := Scalar.addi v2 c0_i32_33
  let c32_i32 : BitVec 32 := 32#32
  let c0_i32_34 : BitVec 32 := 0#32
  ![v23.toNat, 32, 0]
def k0_off4 (i : grid0.Coords) (c0_i32_33 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v23 : BitVec 32 := Scalar.addi v2 c0_i32_33
  let c1040_i32 : BitVec 32 := 1040#32
  let c0_i32_37 : BitVec 32 := 0#32
  ![v23.toNat, 1040, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16x16x2048x128 : Shape := ⟨4, ![16, 16, 2048, 128]⟩
abbrev S32 : Shape := ⟨1, ![32]⟩
abbrev S16x16x32x128 : Shape := ⟨4, ![16, 16, 32, 128]⟩
abbrev S_ : Shape := ⟨0, ![]⟩
abbrev S32x1 : Shape := ⟨2, ![32, 1]⟩

abbrev nBuf : Space → Nat
  | .hbm => 23
  | .vmem => 0
  | .smem => 0
  | _ => 0

abbrev bufTy : (tb : Table) → Fin (tcTables nBuf tb) → BufTy
  | .hbm, ⟨0, _⟩ => ⟨S16x16x2048x128, .f16⟩
  | .hbm, ⟨1, _⟩ => ⟨S16x16x2048x128, .f16⟩
  | .hbm, ⟨2, _⟩ => ⟨S32, .i32⟩
  | .hbm, ⟨3, _⟩ => ⟨S16x16x32x128, .f16⟩
  | .hbm, ⟨4, _⟩ => ⟨S16x16x32x128, .f16⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S16x16x2048x128, .f16⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S32, .i32⟩
  | .hbm, ⟨21, _⟩ => ⟨S32x1, .i32⟩
  | .hbm, ⟨22, _⟩ => ⟨S16x16x2048x128, .f16⟩
  | _, _ => ⟨S16x16x2048x128, .f16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Proof.Setup.lean ====
/-
  The launch of the SparseCore call, and what it carries.

  The call runs on two SparseCores of sixteen vector subcores each. Its operands are the key cache as a
  256 × 2048 × 128 array (`kc`), the new keys and the new values as 256 × 32 × 128 arrays (`kv`, `vv`); its results are
  two 256 × 2048 × 128 arrays (`ko`, `vo`). Subcore `s` of SparseCore `c` writes the eight batch-heads
  `16 s + 8 c + r`, `r < 8`, of both results. Everything here is stated for arbitrary contents of the three operands
  and any float algebra, so that the run of the body is proved once.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Update

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and unscoped where the launch wants them so, and no buffer is shared among the
    subcores of one SparseCore. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev kcLoc (d : Dev nD) : Loc nD τ sig := (SparseCore.T d).loc main_v0
abbrev kvLoc (d : Dev nD) : Loc nD τ sig := (SparseCore.T d).loc main_v1
abbrev vvLoc (d : Dev nD) : Loc nD τ sig := (SparseCore.T d).loc main_v2
abbrev koLoc (d : Dev nD) : Loc nD τ sig := (SparseCore.T d).loc main_v3_0
abbrev voLoc (d : Dev nD) : Loc nD τ sig := (SparseCore.T d).loc main_v3_1

/-- The five arrays and the three scratch buffers as a vector subcore names them. -/
abbrev kcM : Memref sig .scVector .hbm S256x2048x128 .f16 := Memref.whole main_v0_scv
abbrev kvM : Memref sig .scVector .hbm S256x32x128 .f16 := Memref.whole main_v1_scv
abbrev vvM : Memref sig .scVector .hbm S256x32x128 .f16 := Memref.whole main_v2_scv
abbrev koM : Memref sig .scVector .hbm S256x2048x128 .f16 := Memref.whole main_v3_0_scv
abbrev voM : Memref sig .scVector .hbm S256x2048x128 .f16 := Memref.whole main_v3_1_scv
abbrev zM : Memref sig .scVector .vmem S1008x128 .f16 := Memref.whole cc0_scratch0
abbrev krM : Memref sig .scVector .vmem S8x32x128 .f16 := Memref.whole cc0_scratch1
abbrev vrM : Memref sig .scVector .vmem S8x32x128 .f16 := Memref.whole cc0_scratch2

/-! ## The elements a subcore writes -/

/-- The batch-heads SparseCore `c` writes: those whose block of eight has the parity of `c`. -/
def coreSet (c : Fin 2) : Finset S256x2048x128.Idx := Finset.univ.filter fun i => (i 0).val / 8 % 2 = c.val
/-- The block of eight batch-heads subcore `s` of SparseCore `c` writes. -/
def blk (c : Fin 2) (s : Fin 16) : Finset S256x2048x128.Idx := Finset.univ.filter fun i => (i 0).val / 8 = 2 * s.val + c.val
/-- The rows of the new keys, or of the new values, that SparseCore `c` reads, -/
def coreRows (c : Fin 2) : Finset S256x32x128.Idx := Finset.univ.filter fun i => (i 0).val / 8 % 2 = c.val
/-- and those its subcore `s` reads. -/
def rows (c : Fin 2) (s : Fin 16) : Finset S256x32x128.Idx := Finset.univ.filter fun i => (i 0).val / 8 = 2 * s.val + c.val

/-- A SparseCore's share of the key cache, and a subcore's. -/
abbrev coreShare (c : Fin 2) : PosShare TreeShare := Transfers.dealOf fullShare Finset.univ c
abbrev tileShare (c : Fin 2) (s : Fin 16) : PosShare TreeShare := Transfers.dealOf (coreShare c) Finset.univ s

/-! ## What the call computes -/

/-- The index with coordinates `a`, `b`, `c`. -/
def at3 {p q r : ℕ} (a : Fin p) (b : Fin q) (c : Fin r) : (⟨3, ![p, q, r]⟩ : Shape).Idx := fun
  | 0 => a
  | 1 => b
  | 2 => c

/-- The updated cache: the first 32 rows of a batch-head are its new rows `x`, the remaining 2016 are the first 1008 rows
    of batch-head 0 of the key cache, twice. -/
def updated {α : Type} (kc : S256x2048x128.Idx → α) (x : S256x32x128.Idx → α) : S256x2048x128.Idx → α := fun i =>
  if h : (i 1).val < 32 then x (at3 (i 0) ⟨(i 1).val, h⟩ (i 2))
  else kc (at3 (0 : Fin 256) (⟨((i 1).val - 32) % 1008, by have := Nat.mod_lt ((i 1).val - 32) (show 0 < 1008 by omega); omega⟩ : Fin 2048) (i 2))

/-! ## The windows a subcore's copies land in -/

section Windows

variable (o : Memref sig .scVector .hbm S256x2048x128 .f16) (L : grid0.Coords)

/-- The new rows of the eight batch-heads, -/
abbrev headM : Memref sig .scVector .hbm S8x32x128 .f16 :=
  o.slice (Rect.unit (s := S256x2048x128) (k0_off2 L) S8x32x128.size (k0_off2_inb L)) (fun _ => rfl)
/-- rows 32 to 1039 of the `w`-th of them, -/
abbrev lowM (w : BitVec 32) (h : ∀ a, k0_off3 L w a + S1x1008x128.size a ≤ S256x2048x128.size a) : Memref sig .scVector .hbm S1008x128 .f16 :=
  (o.slice (Rect.unit (s := S256x2048x128) (k0_off3 L w) S1x1008x128.size h) (fun _ => rfl)).squeeze S1008x128 squeezes_S1x1008x128_S1008x128
/-- and rows 1040 to 2047. -/
abbrev highM (w : BitVec 32) (h : ∀ a, k0_off4 L w a + S1x1008x128.size a ≤ S256x2048x128.size a) : Memref sig .scVector .hbm S1008x128 .f16 :=
  (o.slice (Rect.unit (s := S256x2048x128) (k0_off4 L w) S1x1008x128.size h) (fun _ => rfl)).squeeze S1008x128 squeezes_S1x1008x128_S1008x128

/-- The rows of the new keys or values the subcore reads, -/
abbrev rowsM (x : Memref sig .scVector .hbm S256x32x128 .f16) : Memref sig .scVector .hbm S8x32x128 .f16 :=
  x.slice (Rect.unit (s := S256x32x128) (k0_off1 L) S8x32x128.size (k0_off1_inb L)) (fun _ => rfl)
/-- and of the key cache. -/
abbrev freshM : Memref sig .scVector .hbm S1008x128 .f16 :=
  (kcM.slice (Rect.unit (s := S256x2048x128) ![0, 0, 0] S1x1008x128.size inb_S256x2048x128_S1x1008x128_0_0_0) (fun _ => rfl)).squeeze S1008x128 squeezes_S1x1008x128_S1008x128

end Windows

end Cert.Proof.Update

end
-- ==== Proof.Windows.lean ====
/-
  The windows of one vector subcore: they partition the block of batch-heads it writes, and what its copies land in each
  is the updated cache there.
-/
module

public import proofs.«01_k».proof.Proof.Setup

@[expose] public section

noncomputable section

namespace Cert.Proof.Update

open Cert.KernelIdeal Cert.KernelIdeal.Gen
open Idealize.ShloMosaic
open Idealize.ShloMosaic.SparseCore (S V T)

variable {F : FTy → Type}

/-! ## A subcore's coordinates -/

theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)
theorem cL_lt (L : grid0.Coords) : (L 0).val < 2 := (cL L).isLt
theorem sL_lt (L : grid0.Coords) : (L 1).val < 16 := (sL L).isLt

variable (L : grid0.Coords)

/-! ## The rectangles -/

abbrev headR : Rect S256x2048x128 := Rect.unit (s := S256x2048x128) (k0_off2 L) S8x32x128.size (k0_off2_inb L)
abbrev lowR (r : Fin 8) : Rect S256x2048x128 := Rect.unit (s := S256x2048x128) (k0_off3 L (BitVec.ofNat 32 r.val)) S1x1008x128.size (k0_off3_inb L r)
abbrev highR (r : Fin 8) : Rect S256x2048x128 := Rect.unit (s := S256x2048x128) (k0_off4 L (BitVec.ofNat 32 r.val)) S1x1008x128.size (k0_off4_inb L r)

theorem mem_headR (i : S256x2048x128.Idx) : i ∈ (headR L).set ↔ (i 0).val / 8 = 2 * (L 1).val + (L 0).val ∧ (i 1).val < 32 := by
  rw [Rect.mem_set_unit, Fin.forall_fin_succ, Fin.forall_fin_two, k0_off2_eq]
  have h2 : (i 2).val < 128 := (i 2).isLt
  simp [S8x32x128]
  omega

theorem mem_lowR (r : Fin 8) (i : S256x2048x128.Idx) :
    i ∈ (lowR L r).set ↔ (i 0).val = 16 * (L 1).val + 8 * (L 0).val + r.val ∧ 32 ≤ (i 1).val ∧ (i 1).val < 1040 := by
  rw [Rect.mem_set_unit, Fin.forall_fin_succ, Fin.forall_fin_two, k0_off3_eq]
  have h2 : (i 2).val < 128 := (i 2).isLt
  simp
  omega

theorem mem_highR (r : Fin 8) (i : S256x2048x128.Idx) :
    i ∈ (highR L r).set ↔ (i 0).val = 16 * (L 1).val + 8 * (L 0).val + r.val ∧ 1040 ≤ (i 1).val := by
  rw [Rect.mem_set_unit, Fin.forall_fin_succ, Fin.forall_fin_two, k0_off4_eq]
  have h2 : (i 2).val < 128 := (i 2).isLt
  have h1 : (i 1).val < 2048 := (i 1).isLt
  simp
  omega

/-- A window: the head rows, or the lower or upper tail of one of the eight batch-heads. -/
abbrev Win : Type := Unit ⊕ (Fin 8 ⊕ Fin 8)

/-- Its elements. -/
def winSet : Win → Finset S256x2048x128.Idx
  | .inl _ => (headR L).set
  | .inr (.inl r) => (lowR L r).set
  | .inr (.inr r) => (highR L r).set

theorem winSet_disjoint : ∀ a ∈ (Finset.univ : Finset Win), ∀ b ∈ (Finset.univ : Finset Win), a ≠ b → Disjoint (winSet L a) (winSet L b) := by
  intro a _ b _ hab
  rw [Finset.disjoint_left]
  rcases a with a | a | a <;> rcases b with b | b | b <;> intro i ha hb <;> simp only [winSet, mem_headR, mem_lowR, mem_highR] at ha hb
  all_goals first
    | exact hab rfl
    | omega
    | exact hab (by congr 2; exact Fin.ext (by omega))

theorem winSet_cover : (Finset.univ : Finset Win).biUnion (winSet L) = blk (cL L) (sL L) := by
  ext i
  have h1 : (i 1).val < 2048 := (i 1).isLt
  simp only [Finset.mem_biUnion, Finset.mem_univ, true_and, blk, Finset.mem_filter, Sum.exists, winSet, mem_headR, mem_lowR, mem_highR, Fin.val_cast]
  constructor
  · rintro (⟨-, h, -⟩ | ⟨r, h, -⟩ | ⟨r, h, -⟩)
    · exact h
    · have := r.isLt; omega
    · have := r.isLt; omega
  · intro h
    by_cases h32 : (i 1).val < 32
    · exact .inl ⟨(), h, h32⟩
    · refine .inr ?_
      have hr : (i 0).val % 8 < 8 := Nat.mod_lt _ (by omega)
      by_cases hh : (i 1).val < 1040
      · exact .inl ⟨⟨_, hr⟩, by simp only; omega, by omega, hh⟩
      · exact .inr ⟨⟨_, hr⟩, by simp only; omega, by omega⟩

/-- The rows of the new keys or values a subcore reads are its block's. -/
theorem rowsR_set : (Rect.unit (s := S256x32x128) (k0_off1 L) S8x32x128.size (k0_off1_inb L)).set = rows (cL L) (sL L) := by
  ext i
  have h1 : (i 1).val < 32 := (i 1).isLt
  have h2 : (i 2).val < 128 := (i 2).isLt
  rw [Rect.mem_set_unit, Fin.forall_fin_succ, Fin.forall_fin_two, k0_off1_eq]
  simp [rows]
  omega

/-! ## What lands -/

/-- A whole write through a view leaves, at each of the view's elements, the payload at the index the element sits under. -/
theorem writes_whole_at {κ : Kind} {sp : Space} {s : Shape} {e : EltTy} {Val : EltTy → Type} (v : View sig κ sp s e) (f : v.ty.Contents Val) (w : s.Idx → Val e)
    {i : v.ty.Idx} (hi : i ∈ v.set) : ∃ j, v.emb j = i ∧ v.writes Val f [⟨Rect.whole s, w⟩] i = cast (congrArg Val v.elt_eq.symm) (w j) := by
  obtain ⟨j, -, rfl⟩ := Finset.mem_map.mp hi
  refine ⟨j, rfl, ?_⟩
  have e : (v.slice (Rect.whole s)).emb j = v.emb j := by
    show v.emb ((Rect.whole s).emb j) = v.emb j
    congr 1
    funext a
    exact Fin.ext (by rw [Rect.emb_apply]; show 0 + 1 * (j a).val = (j a).val; omega)
  rw [View.writes_singleton, ← e]
  exact View.write_emb_of_mem _ _ (Finset.mem_univ _)

variable {α : Type} (kc : S256x2048x128.Idx → α) (x : S256x32x128.Idx → α)

theorem updated_of_lt {i : S256x2048x128.Idx} (h : (i 1).val < 32) : updated kc x i = x (at3 (i 0) ⟨(i 1).val, h⟩ (i 2)) := dif_pos h

/-- The value of a coordinate, whatever the way it is told which axis it is. -/
theorem at3_ext {p q r : ℕ} {i : (⟨3, ![p, q, r]⟩ : Shape).Idx} {a : Fin p} {b : Fin q} {c : Fin r}
    (h0 : (i 0).val = a.val) (h1 : (i 1).val = b.val) (h2 : (i 2).val = c.val) : at3 a b c = i := by
  funext t
  match t with
  | 0 => exact Fin.ext h0.symm
  | 1 => exact Fin.ext h1.symm
  | 2 => exact Fin.ext h2.symm

/-- In the head window the updated cache is the new rows, -/
theorem updated_head (y : S8x32x128.Idx) :
    updated kc x ((headR L).emb y) = x ((Rect.unit (s := S256x32x128) (k0_off1 L) S8x32x128.size (k0_off1_inb L)).emb y) := by
  have h1 : (y 1).val < 32 := (y 1).isLt
  have e : ((headR L).emb y 1).val < 32 := by rw [Rect.emb_apply]; simp [k0_off2_eq]; omega
  rw [updated_of_lt kc x e]
  refine congrArg x (at3_ext ?_ ?_ ?_) <;> simp [Rect.emb_apply, k0_off1_eq, k0_off2_eq]

theorem updated_of_ge {i : S256x2048x128.Idx} {y : S256x2048x128.Idx} (h : 32 ≤ (i 1).val) (h0 : (y 0).val = 0)
    (h1 : (y 1).val = ((i 1).val - 32) % 1008) (h2 : (y 2).val = (i 2).val) : updated kc x i = kc y :=
  (dif_neg (by omega)).trans (congrArg kc (at3_ext h0 h1 h2))

abbrev freshR : Rect S256x2048x128 := Rect.unit (s := S256x2048x128) ![0, 0, 0] S1x1008x128.size inb_S256x2048x128_S1x1008x128_0_0_0

/-- in the lower tails it is the first rows of the key cache, -/
theorem updated_low (r : Fin 8) (y : S1x1008x128.Idx) : updated kc x ((lowR L r).emb y) = kc (freshR.emb y) := by
  have h0 : (y 0).val < 1 := (y 0).isLt
  have h1 : (y 1).val < 1008 := (y 1).isLt
  refine updated_of_ge kc x ?_ ?_ ?_ ?_ <;> simp [Rect.emb_apply, k0_off3_eq] <;> omega

/-- and so in the upper ones. -/
theorem updated_high (r : Fin 8) (y : S1x1008x128.Idx) : updated kc x ((highR L r).emb y) = kc (freshR.emb y) := by
  have h0 : (y 0).val < 1 := (y 0).isLt
  have h1 : (y 1).val < 1008 := (y 1).isLt
  refine updated_of_ge kc x ?_ ?_ ?_ ?_ <;> simp [Rect.emb_apply, k0_off4_eq] <;> omega

end Cert.Proof.Update

end
-- ==== Proof.Parts.lean ====
/-
  A subcore's block of a result, held window by window: as the body's copies find it, and as they leave it.
-/
module

public import proofs.«01_k».proof.Proof.Windows

@[expose] public section

noncomputable section

namespace Cert.Proof.Update

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

/-- The SparseCore and the subcore at grid coordinates `L`. -/
abbrev cV (L : grid0.Coords) : Fin τ.nSC := (L 0).castLE hcore0
abbrev jV (L : grid0.Coords) : Fin τ.nSub := (L 1).castLE hsub0

/-! ## The windows of an array `o`, at contents `f` -/

section Held

variable (o : Memref sig .scVector .hbm S256x2048x128 .f16)

abbrev headAt (f : Buf (Elt F) (o.view.loc (V d (cV L) (jV L)))) : sProp 𝕄 :=
  (headM o L).view.loc (V d (cV L) (jV L)) ↦[(headM o L).view.set]{fullShare} f
abbrev lowAt (w : BitVec 32) (h : ∀ a, k0_off3 L w a + S1x1008x128.size a ≤ S256x2048x128.size a) (f : Buf (Elt F) (o.view.loc (V d (cV L) (jV L)))) : sProp 𝕄 :=
  (lowM o L w h).view.loc (V d (cV L) (jV L)) ↦[(lowM o L w h).view.set]{fullShare} f
abbrev highAt (w : BitVec 32) (h : ∀ a, k0_off4 L w a + S1x1008x128.size a ≤ S256x2048x128.size a) (f : Buf (Elt F) (o.view.loc (V d (cV L) (jV L)))) : sProp 𝕄 :=
  (highM o L w h).view.loc (V d (cV L) (jV L)) ↦[(highM o L w h).view.set]{fullShare} f

/-- The block at contents `f`. -/
abbrev heldParts (f : Buf (Elt F) (o.view.loc (V d (cV L) (jV L)))) : sProp 𝕄 :=
  iprop(headAt d L o f
    ∗ (lowAt d L o 0#32 (k0_off3_inb L 0) f
      ∗ lowAt d L o 1#32 (k0_off3_inb L 1) f
      ∗ lowAt d L o 2#32 (k0_off3_inb L 2) f
      ∗ lowAt d L o 3#32 (k0_off3_inb L 3) f
      ∗ lowAt d L o 4#32 (k0_off3_inb L 4) f
      ∗ lowAt d L o 5#32 (k0_off3_inb L 5) f
      ∗ lowAt d L o 6#32 (k0_off3_inb L 6) f
      ∗ lowAt d L o 7#32 (k0_off3_inb L 7) f)
    ∗ (highAt d L o 0#32 (k0_off4_inb L 0) f
      ∗ highAt d L o 1#32 (k0_off4_inb L 1) f
      ∗ highAt d L o 2#32 (k0_off4_inb L 2) f
      ∗ highAt d L o 3#32 (k0_off4_inb L 3) f
      ∗ highAt d L o 4#32 (k0_off4_inb L 4) f
      ∗ highAt d L o 5#32 (k0_off4_inb L 5) f
      ∗ highAt d L o 6#32 (k0_off4_inb L 6) f
      ∗ highAt d L o 7#32 (k0_off4_inb L 7) f))

/-- A window after a copy of `p`, or of `z`, has landed in it whole. -/
abbrev headLanded (f : Buf (Elt F) (o.view.loc (V d (cV L) (jV L)))) (p : S8x32x128.Idx → Elt F .f16) : sProp 𝕄 :=
  headAt d L o ((headM o L).view.writes (Elt F) f [⟨Rect.whole S8x32x128, p⟩])
abbrev lowLanded (w : BitVec 32) (h : ∀ a, k0_off3 L w a + S1x1008x128.size a ≤ S256x2048x128.size a) (f : Buf (Elt F) (o.view.loc (V d (cV L) (jV L))))
    (z : S1008x128.Idx → Elt F .f16) : sProp 𝕄 :=
  lowAt d L o w h ((lowM o L w h).view.writes (Elt F) f [⟨Rect.whole S1008x128, z⟩])
abbrev highLanded (w : BitVec 32) (h : ∀ a, k0_off4 L w a + S1x1008x128.size a ≤ S256x2048x128.size a) (f : Buf (Elt F) (o.view.loc (V d (cV L) (jV L))))
    (z : S1008x128.Idx → Elt F .f16) : sProp 𝕄 :=
  highAt d L o w h ((highM o L w h).view.writes (Elt F) f [⟨Rect.whole S1008x128, z⟩])

/-- The block after `p` has landed in its head window and `z` in each of its tails. -/
abbrev landedParts (f : Buf (Elt F) (o.view.loc (V d (cV L) (jV L)))) (p : S8x32x128.Idx → Elt F .f16) (z : S1008x128.Idx → Elt F .f16) : sProp 𝕄 :=
  iprop(headLanded d L o f p
    ∗ (lowLanded d L o 0#32 (k0_off3_inb L 0) f z
      ∗ lowLanded d L o 1#32 (k0_off3_inb L 1) f z
      ∗ lowLanded d L o 2#32 (k0_off3_inb L 2) f z
      ∗ lowLanded d L o 3#32 (k0_off3_inb L 3) f z
      ∗ lowLanded d L o 4#32 (k0_off3_inb L 4) f z
      ∗ lowLanded d L o 5#32 (k0_off3_inb L 5) f z
      ∗ lowLanded d L o 6#32 (k0_off3_inb L 6) f z
      ∗ lowLanded d L o 7#32 (k0_off3_inb L 7) f z)
    ∗ (highLanded d L o 0#32 (k0_off4_inb L 0) f z
      ∗ highLanded d L o 1#32 (k0_off4_inb L 1) f z
      ∗ highLanded d L o 2#32 (k0_off4_inb L 2) f z
      ∗ highLanded d L o 3#32 (k0_off4_inb L 3) f z
      ∗ highLanded d L o 4#32 (k0_off4_inb L 4) f z
      ∗ highLanded d L o 5#32 (k0_off4_inb L 5) f z
      ∗ highLanded d L o 6#32 (k0_off4_inb L 6) f z
      ∗ highLanded d L o 7#32 (k0_off4_inb L 7) f z))

end Held

/-! ## Windows and block -/

/-- A block's windows, one of each kind listed in turn. -/
abbrev partsOf (H : sProp 𝕄) (A B : Fin 8 → sProp 𝕄) : sProp 𝕄 :=
  iprop(H ∗ (A 0 ∗ A 1 ∗ A 2 ∗ A 3 ∗ A 4 ∗ A 5 ∗ A 6 ∗ A 7) ∗ (B 0 ∗ B 1 ∗ B 2 ∗ B 3 ∗ B 4 ∗ B 5 ∗ B 6 ∗ B 7))

theorem bigSep_eight (A : Fin 8 → sProp 𝕄) : bigSep Finset.univ A = iprop(A 0 ∗ A 1 ∗ A 2 ∗ A 3 ∗ A 4 ∗ A 5 ∗ A 6 ∗ A 7) := by
  rw [bigSep_univ_succ, bigSep_univ_succ, bigSep_univ_succ, bigSep_univ_succ,
    bigSep_univ_succ, bigSep_univ_succ, bigSep_univ_succ, bigSep_univ_of_subsingleton (0 : Fin 1)]
  rfl

/-- What is held over sets that partition `I`, one set to each window, is held over `I`. -/
theorem partsOf_eq {ℓ : Loc nD τ sig} (I : Finset (Idx ℓ)) (W : Win → Finset (Idx ℓ))
    (hW : ∀ a ∈ (Finset.univ : Finset Win), ∀ b ∈ (Finset.univ : Finset Win), a ≠ b → Disjoint (W a) (W b)) (hI : (Finset.univ : Finset Win).biUnion W = I)
    (f : Buf (Elt F) ℓ) {H : sProp 𝕄} {A B : Fin 8 → sProp 𝕄} (hH : H = (ℓ ↦[W (.inl ())]{fullShare} f))
    (hA : ∀ r, A r = (ℓ ↦[W (.inr (.inl r))]{fullShare} f)) (hB : ∀ r, B r = (ℓ ↦[W (.inr (.inr r))]{fullShare} f)) :
    partsOf H A B = (ℓ ↦[I]{fullShare} f) := by
  rw [← hI, pointsTo_biUnion _ W hW, bigSep_univ_sum, bigSep_univ_sum, bigSep_univ_of_subsingleton (), ← hH,
    ← bigSep_congr (fun r _ => hA r), ← bigSep_congr (fun r _ => hB r), bigSep_eight, bigSep_eight]
  rfl

/-! ## The two results -/

theorem pts_head_ko (f : Buf (Elt F) (koLoc d)) : headAt d L koM f = (koLoc d ↦[winSet L (.inl ())]{fullShare} f : sProp 𝕄) := by
  unfold headAt; rw [show (headM koM L).view.set = winSet L (.inl ()) from View.set_slice_whole _ _]
theorem pts_low_ko (r : Fin 8) (f : Buf (Elt F) (koLoc d)) :
    lowAt d L koM (BitVec.ofNat 32 r.val) (k0_off3_inb L r) f = (koLoc d ↦[winSet L (.inr (.inl r))]{fullShare} f : sProp 𝕄) := by
  unfold lowAt
  rw [show (lowM koM L (BitVec.ofNat 32 r.val) (k0_off3_inb L r)).view.set = winSet L (.inr (.inl r)) from
    (View.set_reshape _ _).trans (View.set_slice_whole _ _)]
theorem pts_high_ko (r : Fin 8) (f : Buf (Elt F) (koLoc d)) :
    highAt d L koM (BitVec.ofNat 32 r.val) (k0_off4_inb L r) f = (koLoc d ↦[winSet L (.inr (.inr r))]{fullShare} f : sProp 𝕄) := by
  unfold highAt
  rw [show (highM koM L (BitVec.ofNat 32 r.val) (k0_off4_inb L r)).view.set = winSet L (.inr (.inr r)) from
    (View.set_reshape _ _).trans (View.set_slice_whole _ _)]

theorem heldParts_ko (f : Buf (Elt F) (koLoc d)) : heldParts d L koM f = (koLoc d ↦[blk (cL L) (sL L)]{fullShare} f : sProp 𝕄) :=
  partsOf_eq (ℓ := koLoc d) (blk (cL L) (sL L)) (winSet L) (winSet_disjoint L) (winSet_cover L) f (pts_head_ko d L f)
    (A := fun r => lowAt d L koM (BitVec.ofNat 32 r.val) (k0_off3_inb L r) f) (fun r => pts_low_ko d L r f)
    (B := fun r => highAt d L koM (BitVec.ofNat 32 r.val) (k0_off4_inb L r) f) (fun r => pts_high_ko d L r f)

theorem pts_head_vo (f : Buf (Elt F) (voLoc d)) : headAt d L voM f = (voLoc d ↦[winSet L (.inl ())]{fullShare} f : sProp 𝕄) := by
  unfold headAt; rw [show (headM voM L).view.set = winSet L (.inl ()) from View.set_slice_whole _ _]
theorem pts_low_vo (r : Fin 8) (f : Buf (Elt F) (voLoc d)) :
    lowAt d L voM (BitVec.ofNat 32 r.val) (k0_off3_inb L r) f = (voLoc d ↦[winSet L (.inr (.inl r))]{fullShare} f : sProp 𝕄) := by
  unfold lowAt
  rw [show (lowM voM L (BitVec.ofNat 32 r.val) (k0_off3_inb L r)).view.set = winSet L (.inr (.inl r)) from
    (View.set_reshape _ _).trans (View.set_slice_whole _ _)]
theorem pts_high_vo (r : Fin 8) (f : Buf (Elt F) (voLoc d)) :
    highAt d L voM (BitVec.ofNat 32 r.val) (k0_off4_inb L r) f = (voLoc d ↦[winSet L (.inr (.inr r))]{fullShare} f : sProp 𝕄) := by
  unfold highAt
  rw [show (highM voM L (BitVec.ofNat 32 r.val) (k0_off4_inb L r)).view.set = winSet L (.inr (.inr r)) from
    (View.set_reshape _ _).trans (View.set_slice_whole _ _)]

theorem heldParts_vo (f : Buf (Elt F) (voLoc d)) : heldParts d L voM f = (voLoc d ↦[blk (cL L) (sL L)]{fullShare} f : sProp 𝕄) :=
  partsOf_eq (ℓ := voLoc d) (blk (cL L) (sL L)) (winSet L) (winSet_disjoint L) (winSet_cover L) f (pts_head_vo d L f)
    (A := fun r => lowAt d L voM (BitVec.ofNat 32 r.val) (k0_off3_inb L r) f) (fun r => pts_low_vo d L r f)
    (B := fun r => highAt d L voM (BitVec.ofNat 32 r.val) (k0_off4_inb L r) f) (fun r => pts_high_vo d L r f)

/-! ## What lands is the updated cache -/

section Landed

variable (kc : S256x2048x128.Idx → Elt F .f16) (x : S256x32x128.Idx → Elt F .f16) {p : S8x32x128.Idx → Elt F .f16} {z : S1008x128.Idx → Elt F .f16}

theorem landedParts_ko (f : Buf (Elt F) (koLoc d))
    (hp : ∀ y, p y = x ((Rect.unit (s := S256x32x128) (k0_off1 L) S8x32x128.size (k0_off1_inb L)).emb y))
    (hz : ∀ j, z j = kc (freshR.emb (Shape.reshapeEquiv squeezes_S1x1008x128_S1008x128.numel_eq j))) :
    landedParts d L koM f p z = (koLoc d ↦[blk (cL L) (sL L)]{fullShare} (updated kc x : Buf (Elt F) (koLoc d)) : sProp 𝕄) := by
  refine partsOf_eq (ℓ := koLoc d) (blk (cL L) (sL L)) (winSet L) (winSet_disjoint L) (winSet_cover L) (updated kc x) ?_
    (A := fun r => lowLanded d L koM (BitVec.ofNat 32 r.val) (k0_off3_inb L r) f z) (fun r => ?_)
    (B := fun r => highLanded d L koM (BitVec.ofNat 32 r.val) (k0_off4_inb L r) f z) (fun r => ?_)
  · refine (pointsTo_congr fun i hi => ?_).trans (pts_head_ko d L _)
    obtain ⟨y, rfl, e⟩ := writes_whole_at (Val := Elt F) (headM koM L).view f p hi
    exact e.trans ((hp y).trans (updated_head L kc x y).symm)
  · refine (pointsTo_congr fun i hi => ?_).trans (pts_low_ko d L r _)
    obtain ⟨y, rfl, e⟩ := writes_whole_at (Val := Elt F) (lowM koM L (BitVec.ofNat 32 r.val) (k0_off3_inb L r)).view f z hi
    exact e.trans ((hz y).trans (updated_low L kc x r _).symm)
  · refine (pointsTo_congr fun i hi => ?_).trans (pts_high_ko d L r _)
    obtain ⟨y, rfl, e⟩ := writes_whole_at (Val := Elt F) (highM koM L (BitVec.ofNat 32 r.val) (k0_off4_inb L r)).view f z hi
    exact e.trans ((hz y).trans (updated_high L kc x r _).symm)

theorem landedParts_vo (f : Buf (Elt F) (voLoc d))
    (hp : ∀ y, p y = x ((Rect.unit (s := S256x32x128) (k0_off1 L) S8x32x128.size (k0_off1_inb L)).emb y))
    (hz : ∀ j, z j = kc (freshR.emb (Shape.reshapeEquiv squeezes_S1x1008x128_S1008x128.numel_eq j))) :
    landedParts d L voM f p z = (voLoc d ↦[blk (cL L) (sL L)]{fullShare} (updated kc x : Buf (Elt F) (voLoc d)) : sProp 𝕄) := by
  refine partsOf_eq (ℓ := voLoc d) (blk (cL L) (sL L)) (winSet L) (winSet_disjoint L) (winSet_cover L) (updated kc x) ?_
    (A := fun r => lowLanded d L voM (BitVec.ofNat 32 r.val) (k0_off3_inb L r) f z) (fun r => ?_)
    (B := fun r => highLanded d L voM (BitVec.ofNat 32 r.val) (k0_off4_inb L r) f z) (fun r => ?_)
  · refine (pointsTo_congr fun i hi => ?_).trans (pts_head_vo d L _)
    obtain ⟨y, rfl, e⟩ := writes_whole_at (Val := Elt F) (headM voM L).view f p hi
    exact e.trans ((hp y).trans (updated_head L kc x y).symm)
  · refine (pointsTo_congr fun i hi => ?_).trans (pts_low_vo d L r _)
    obtain ⟨y, rfl, e⟩ := writes_whole_at (Val := Elt F) (lowM voM L (BitVec.ofNat 32 r.val) (k0_off3_inb L r)).view f z hi
    exact e.trans ((hz y).trans (updated_low L kc x r _).symm)
  · refine (pointsTo_congr fun i hi => ?_).trans (pts_high_vo d L r _)
    obtain ⟨y, rfl, e⟩ := writes_whole_at (Val := Elt F) (highM voM L (BitVec.ofNat 32 r.val) (k0_off4_inb L r)).view f z hi
    exact e.trans ((hz y).trans (updated_high L kc x r _).symm)

end Landed

end Cert.Proof.Update

end
-- ==== Proof.Tile.lean ====
/-
  One vector subcore's run, at symbolic coordinates: from its share of the key cache, its rows of the new keys and
  values and its block of each result, to the same with both blocks updated.
-/
module

public import proofs.«01_k».proof.Proof.Parts

@[expose] public section

noncomputable section

namespace Cert.Proof.Update

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (L : grid0.Coords)

abbrev zCell (d : Dev nD) (c : Fin τ.nSC) (i : Fin τ.nSub) : GSem nD τ sig := (V d c i, .dma cc0_scratch3.sem)
abbrev inCell (d : Dev nD) (c : Fin τ.nSC) (i : Fin τ.nSub) : GSem nD τ sig := (V d c i, .dma cc0_scratch4.sem)
abbrev rowCell (d : Dev nD) (c : Fin τ.nSC) (i : Fin τ.nSub) : GSem nD τ sig := (V d c i, .dma cc0_scratch5.sem)
abbrev tailCell (d : Dev nD) (c : Fin τ.nSC) (i : Fin τ.nSub) : GSem nD τ sig := (V d c i, .dma cc0_scratch6.sem)

/-- The four cells the body's copies complete on are among the subcore's own. -/
theorem ownSems0_V :
    (ownSems0 (V d (cV L) (jV L)) : sProp 𝕄)
      = iprop(semVal (zCell d (cV L) (jV L)) 0 ∗ semVal (inCell d (cV L) (jV L)) 0 ∗ semVal (rowCell d (cV L) (jV L)) 0 ∗ semVal (tailCell d (cV L) (jV L)) 0
          ∗ bigSep (((((ownCells (V d (cV L) (jV L))).erase (zCell d (cV L) (jV L))).erase (inCell d (cV L) (jV L))).erase (rowCell d (cV L) (jV L))).erase
              (tailCell d (cV L) (jV L))) fun g => semVal g 0) := by
  unfold SparseCore.Cfg.ownSems0
  rw [SparseCore.bigSep_erase' ((mem_ownCells (g := zCell d (cV L) (jV L))).mpr ⟨rfl, by
      show (SemLoc.dma cc0_scratch3.sem : SemLoc sig).isScoped .scVector = true; decide⟩),
    SparseCore.bigSep_erase' (Finset.mem_erase.mpr ⟨by simp [zCell, inCell]; decide, (mem_ownCells (g := inCell d (cV L) (jV L))).mpr ⟨rfl, by
      show (SemLoc.dma cc0_scratch4.sem : SemLoc sig).isScoped .scVector = true; decide⟩⟩),
    SparseCore.bigSep_erase' (Finset.mem_erase.mpr ⟨by simp [inCell, rowCell]; decide, Finset.mem_erase.mpr ⟨by simp [zCell, rowCell]; decide,
      (mem_ownCells (g := rowCell d (cV L) (jV L))).mpr ⟨rfl, by show (SemLoc.dma cc0_scratch5.sem : SemLoc sig).isScoped .scVector = true; decide⟩⟩⟩),
    SparseCore.bigSep_erase' (Finset.mem_erase.mpr ⟨by simp [rowCell, tailCell]; decide, Finset.mem_erase.mpr ⟨by simp [inCell, tailCell]; decide,
      Finset.mem_erase.mpr ⟨by simp [zCell, tailCell]; decide,
      (mem_ownCells (g := tailCell d (cV L) (jV L))).mpr ⟨rfl, by show (SemLoc.dma cc0_scratch6.sem : SemLoc sig).isScoped .scVector = true; decide⟩⟩⟩⟩)]

/-- The three scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

variable [FloatOps F]

/-- What a subcore is handed, and what it brings back: its share of the key cache, its rows, its blocks at `ko` and `vo`. -/
abbrev tilePts (d : Dev nD) (c : Fin 2) (s : Fin 16) (kc : Buf (Elt F) (kcLoc d)) (kv : Buf (Elt F) (kvLoc d)) (vv : Buf (Elt F) (vvLoc d))
    (ko : Buf (Elt F) (koLoc d)) (vo : Buf (Elt F) (voLoc d)) : sProp 𝕄 :=
  iprop((kcLoc d ↦{tileShare c s} kc) ∗ (kvLoc d ↦[rows c s]{fullShare} kv) ∗ (vvLoc d ↦[rows c s]{fullShare} vv)
    ∗ (koLoc d ↦[blk c s]{fullShare} ko) ∗ (voLoc d ↦[blk c s]{fullShare} vo))

theorem pts_rows_kv (f : Buf (Elt F) (kvLoc d)) : ((rowsM L kvM).view.loc (V d (cV L) (jV L)) ↦[(rowsM L kvM).view.set]{fullShare} f : sProp 𝕄)
    = kvLoc d ↦[rows (cL L) (sL L)]{fullShare} f := by
  rw [show (rowsM L kvM).view.set = rows (cL L) (sL L) from (View.set_slice_whole _ _).trans (rowsR_set L)]
theorem pts_rows_vv (f : Buf (Elt F) (vvLoc d)) : ((rowsM L vvM).view.loc (V d (cV L) (jV L)) ↦[(rowsM L vvM).view.set]{fullShare} f : sProp 𝕄)
    = vvLoc d ↦[rows (cL L) (sL L)]{fullShare} f := by
  rw [show (rowsM L vvM).view.set = rows (cL L) (sL L) from (View.set_slice_whole _ _).trans (rowsR_set L)]

/-- The arrays and the scratch buffers as the body names them. -/
theorem pts_kc (q : PosShare TreeShare) (f : Buf (Elt F) (kcLoc d)) : (kcM.view.loc (V d (cV L) (jV L)) ↦{q} f : sProp 𝕄) = kcLoc d ↦{q} f := rfl
theorem pts_z (f : Buf (Elt F) ((V d (cV L) (jV L)).loc cc0_scratch0)) :
    (zM.view.loc (V d (cV L) (jV L)) ↦{fullShare} f : sProp 𝕄) = (V d (cV L) (jV L)).loc cc0_scratch0 ↦{fullShare} f := rfl
theorem pts_kr (f : Buf (Elt F) ((V d (cV L) (jV L)).loc cc0_scratch1)) :
    (krM.view.loc (V d (cV L) (jV L)) ↦{fullShare} f : sProp 𝕄) = (V d (cV L) (jV L)).loc cc0_scratch1 ↦{fullShare} f := rfl
theorem pts_vr (f : Buf (Elt F) ((V d (cV L) (jV L)).loc cc0_scratch2)) :
    (vrM.view.loc (V d (cV L) (jV L)) ↦{fullShare} f : sProp 𝕄) = (V d (cV L) (jV L)).loc cc0_scratch2 ↦{fullShare} f := rfl

set_option maxHeartbeats 8000000 in
set_option maxRecDepth 65536 in
/-- The body on vector subcore `(L 0, L 1)` of device `d`: the first 1008 rows of the key cache and the subcore's rows of the
    new keys and values are copied into its scratch; from there the rows go to the head windows of its blocks, and the
    1008 rows to each of the 32 tails, which one semaphore counts together. -/
theorem tile_body (hF : (K (F := F)).Facts) (O : CellTallies nD τ sig (HIx 1)) (W : Waits sig (HIx 1)) (hO : ∀ g, O g none = 0)
    (kc : Buf (Elt F) (kcLoc d)) (kv : Buf (Elt F) (kvLoc d)) (vv : Buf (Elt F) (vvLoc d)) (ko : Buf (Elt F) (koLoc d)) (vo : Buf (Elt F) (voLoc d)) :
    iprop(levAts (K (F := F)).L (K (F := F)).lev ∗ emp ∗ tilePts d (cL L) (sL L) kc kv vv ko vo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L kcM (Memref.isWhole_whole _) kvM (Memref.isWhole_whole _) vvM (Memref.isWhole_whole _) koM (Memref.isWhole_whole _) voM (Memref.isWhole_whole _)
            zM (Memref.isWhole_whole _) krM (Memref.isWhole_whole _) vrM (Memref.isWhole_whole _) cc0_scratch3 cc0_scratch4 cc0_scratch5 cc0_scratch6)
          fun _ => iprop(tilePts d (cL L) (sL L) kc kv vv (updated kc kv : Buf (Elt F) (koLoc d)) (updated kc vv : Buf (Elt F) (voLoc d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__sc_body_eq_skeleton]; unfold cc0__sc_body_skel
  rw [(K (F := F)).scopedBufs_V hF d (cV L) (jV L), SparseCore.Cfg.scopedSems0_V (Val := Elt F) d (cV L) (jV L), ownSems0_V, ownBufs_V]
  have _planIn : Transfers.BatchOf (V d (cV L) (jV L)) (SemLoc.dma cc0_scratch4.sem : SemLoc sig) 2 (windows := true) := trivial
  have _planRow : Transfers.BatchOf (V d (cV L) (jV L)) (SemLoc.dma cc0_scratch5.sem : SemLoc sig) 2 (windows := true) := trivial
  have _planTail : Transfers.BatchOf (V d (cV L) (jV L)) (SemLoc.dma cc0_scratch6.sem : SemLoc sig) 32 (windows := true) := trivial
  iintro ⟨#Hlv, -, ⟨Hkc, Hkv, Hvv, Hko, Hvo⟩, ⟨⟨%fz, Hz⟩, ⟨%fkr, Hkr⟩, ⟨%fvr, Hvr⟩, Hbufs⟩, ⟨HsZ, HsIn, HsRow, HsTail, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hkc := (Entails.of_eq (pts_kc (F := F) d L _ _).symm) $$ Hkc
  ihave Hkv := (Entails.of_eq (pts_rows_kv (F := F) d L _).symm) $$ Hkv
  ihave Hvv := (Entails.of_eq (pts_rows_vv (F := F) d L _).symm) $$ Hvv
  ihave Hz := (Entails.of_eq (pts_z (F := F) d L _).symm) $$ Hz
  ihave Hkr := (Entails.of_eq (pts_kr (F := F) d L _).symm) $$ Hkr
  ihave Hvr := (Entails.of_eq (pts_vr (F := F) d L _).symm) $$ Hvr
  ihave Hko := (Entails.of_eq (heldParts_ko (F := F) d L _).symm) $$ Hko
  ihave Hvo := (Entails.of_eq (heldParts_vo (F := F) d L _).symm) $$ Hvo
  icases Hko with ⟨Hkh, ⟨Hk0, Hk1, Hk2, Hk3, Hk4, Hk5, Hk6, Hk7⟩, Hk0', Hk1', Hk2', Hk3', Hk4', Hk5', Hk6', Hk7'⟩
  icases Hvo with ⟨Hvh, ⟨Hv0, Hv1, Hv2, Hv3, Hv4, Hv5, Hv6, Hv7⟩, Hv0', Hv1', Hv2', Hv3', Hv4', Hv5', Hv6', Hv7'⟩
  sl_exec
  sl_step
  have hk : ∀ y, tile_body.sl.dma3 d L kv fkr y = kv ((Rect.unit (s := S256x32x128) (k0_off1 L) S8x32x128.size (k0_off1_inb L)).emb y) := fun y =>
    congrFun (View.read_write_univ (Val := Elt F) (v := krM.view) fkr (tile_body.sl.dma1 d L kv)) y
  have hv : ∀ y, tile_body.sl.dma4 d L vv fvr y = vv ((Rect.unit (s := S256x32x128) (k0_off1 L) S8x32x128.size (k0_off1_inb L)).emb y) := fun y =>
    congrFun (View.read_write_univ (Val := Elt F) (v := vrM.view) fvr (tile_body.sl.dma2 d L vv)) y
  have hz : ∀ j, tile_body.sl.dma5 d L kc fz j = kc (freshR.emb (Shape.reshapeEquiv squeezes_S1x1008x128_S1008x128.numel_eq j)) := fun j =>
    congrFun (View.read_write_univ (Val := Elt F) (v := zM.view) fz (tile_body.sl.dma0 d kc)) j
  ihave Hko := (Entails.of_eq (landedParts_ko d L kc kv ko hk hz)) $$ [Hkh Hk0 Hk1 Hk2 Hk3 Hk4 Hk5 Hk6 Hk7 Hk0' Hk1' Hk2' Hk3' Hk4' Hk5' Hk6' Hk7']
  · unfold landedParts; iframe
  ihave Hvo := (Entails.of_eq (landedParts_vo d L kc vv vo hv hz)) $$ [Hvh Hv0 Hv1 Hv2 Hv3 Hv4 Hv5 Hv6 Hv7 Hv0' Hv1' Hv2' Hv3' Hv4' Hv5' Hv6' Hv7']
  · unfold landedParts; iframe
  isplitl [Hkc Hkv Hvv Hko Hvo]
  · isplitl [Hkc]; · iexact Hkc
    isplitl [Hkv]; · iapply (Entails.of_eq (pts_rows_kv (F := F) d L _)); iexact Hkv
    isplitl [Hvv]; · iapply (Entails.of_eq (pts_rows_vv (F := F) d L _)); iexact Hvv
    isplitl [Hko] <;> iassumption
  isplitl [Hz Hkr Hvr Hbufs]
  · isplitl [Hz]; · iexists _; iexact Hz
    isplitl [Hkr]; · iexists _; iexact Hkr
    isplitl [Hvr]; · iexists _; iexact Hvr
    iexact Hbufs
  isplitl [HsZ HsIn HsRow HsTail Hsems]
  · isplitl [HsZ]; · iexact HsZ
    isplitl [HsIn]; · iexact HsIn
    isplitl [HsRow]; · iexact HsRow
    isplitl [HsTail]; · iexact HsTail
    iexact Hsems
  iexists _; isplitr
  swap; · iexact HO
  ipureintro; intro p hp
  repeat (rcases Finset.mem_insert.mp hp with hp | hp; · exact .inr (hp ▸ rfl))
  exact .inl hp

end Tile

end Cert.Proof.Update

end
-- ==== Proof.Launch.lean ====
/-
  The launch: the call's operands dealt to the two SparseCores and on to their subcores, and what the subcores bring back.
-/
module

public import proofs.«01_k».proof.Proof.Tile

@[expose] public section

noncomputable section

namespace Cert.Proof.Update

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Batch-heads by SparseCore and by subcore -/

theorem coreSet_disjoint : ∀ c ∈ (Finset.univ : Finset (Fin 2)), ∀ c' ∈ (Finset.univ : Finset (Fin 2)), c ≠ c' → Disjoint (coreSet c) (coreSet c') := by
  intro c _ c' _ h
  rw [Finset.disjoint_left]
  intro i hi hi'
  simp only [coreSet, Finset.mem_filter] at hi hi'
  exact h (Fin.ext (hi.2.symm.trans hi'.2))
theorem coreRows_disjoint : ∀ c ∈ (Finset.univ : Finset (Fin 2)), ∀ c' ∈ (Finset.univ : Finset (Fin 2)), c ≠ c' → Disjoint (coreRows c) (coreRows c') := by
  intro c _ c' _ h
  rw [Finset.disjoint_left]
  intro i hi hi'
  simp only [coreRows, Finset.mem_filter] at hi hi'
  exact h (Fin.ext (hi.2.symm.trans hi'.2))
theorem coreSet_cover : (Finset.univ : Finset (Fin 2)).biUnion coreSet = Finset.univ := by
  ext i
  simp only [Finset.mem_biUnion, Finset.mem_univ, true_and, coreSet, Finset.mem_filter, iff_true]
  exact ⟨⟨(i 0).val / 8 % 2, Nat.mod_lt _ (by omega)⟩, rfl⟩
theorem coreRows_cover : (Finset.univ : Finset (Fin 2)).biUnion coreRows = Finset.univ := by
  ext i
  simp only [Finset.mem_biUnion, Finset.mem_univ, true_and, coreRows, Finset.mem_filter, iff_true]
  exact ⟨⟨(i 0).val / 8 % 2, Nat.mod_lt _ (by omega)⟩, rfl⟩

variable (c : Fin 2)

theorem blk_disjoint : ∀ s ∈ (Finset.univ : Finset (Fin 16)), ∀ s' ∈ (Finset.univ : Finset (Fin 16)), s ≠ s' → Disjoint (blk c s) (blk c s') := by
  intro s _ s' _ h
  rw [Finset.disjoint_left]
  intro i hi hi'
  simp only [blk, Finset.mem_filter] at hi hi'
  exact h (Fin.ext (by omega))
theorem rows_disjoint : ∀ s ∈ (Finset.univ : Finset (Fin 16)), ∀ s' ∈ (Finset.univ : Finset (Fin 16)), s ≠ s' → Disjoint (rows c s) (rows c s') := by
  intro s _ s' _ h
  rw [Finset.disjoint_left]
  intro i hi hi'
  simp only [rows, Finset.mem_filter] at hi hi'
  exact h (Fin.ext (by omega))
theorem blk_cover : (Finset.univ : Finset (Fin 16)).biUnion (blk c) = coreSet c := by
  ext i
  have hi : (i 0).val < 256 := (i 0).isLt
  have hc := c.isLt
  simp only [Finset.mem_biUnion, Finset.mem_univ, true_and, coreSet, blk, Finset.mem_filter]
  constructor
  · rintro ⟨s, h⟩; omega
  · intro h; exact ⟨⟨(i 0).val / 16, by omega⟩, by simp only; omega⟩
theorem rows_cover : (Finset.univ : Finset (Fin 16)).biUnion (rows c) = coreRows c := by
  ext i
  have hi : (i 0).val < 256 := (i 0).isLt
  have hc := c.isLt
  simp only [Finset.mem_biUnion, Finset.mem_univ, true_and, coreRows, rows, Finset.mem_filter]
  constructor
  · rintro ⟨s, h⟩; omega
  · intro h; exact ⟨⟨(i 0).val / 16, by omega⟩, by simp only; omega⟩

/-! ## The operands dealt -/

section Deal

variable (d : Dev nD) (kc : Buf (Elt F) (kcLoc d)) (kv : Buf (Elt F) (kvLoc d)) (vv : Buf (Elt F) (vvLoc d))
  (ko : Buf (Elt F) (koLoc d)) (vo : Buf (Elt F) (voLoc d))

/-- The call's five arrays, whole, -/
abbrev callPts : sProp 𝕄 :=
  iprop((kcLoc d ↦{fullShare} kc) ∗ (kvLoc d ↦{fullShare} kv) ∗ (vvLoc d ↦{fullShare} vv) ∗ (koLoc d ↦{fullShare} ko) ∗ (voLoc d ↦{fullShare} vo))
/-- and what SparseCore `c` has of them. -/
abbrev corePts (c : Fin 2) : sProp 𝕄 :=
  iprop((kcLoc d ↦{coreShare c} kc) ∗ (kvLoc d ↦[coreRows c]{fullShare} kv) ∗ (vvLoc d ↦[coreRows c]{fullShare} vv)
    ∗ (koLoc d ↦[coreSet c]{fullShare} ko) ∗ (voLoc d ↦[coreSet c]{fullShare} vo))

theorem callPts_eq : callPts d kc kv vv ko vo = (bigSep Finset.univ fun c : Fin 2 => corePts d kc kv vv ko vo c : sProp 𝕄) := by
  rw [bigSep_sep', bigSep_sep', bigSep_sep', bigSep_sep',
    ← Transfers.pointsTo_deal (ℓ := kcLoc d) (f := kc) Finset.univ Finset.univ_nonempty fullShare,
    ← pointsTo_biUnion Finset.univ (ℓ := kvLoc d) coreRows coreRows_disjoint,
    ← pointsTo_biUnion Finset.univ (ℓ := vvLoc d) coreRows coreRows_disjoint,
    ← pointsTo_biUnion Finset.univ (ℓ := koLoc d) coreSet coreSet_disjoint,
    ← pointsTo_biUnion Finset.univ (ℓ := voLoc d) coreSet coreSet_disjoint, coreRows_cover, coreSet_cover]

theorem corePts_eq : corePts d kc kv vv ko vo c = (bigSep Finset.univ fun s : Fin 16 => tilePts d c s kc kv vv ko vo : sProp 𝕄) := by
  rw [bigSep_sep', bigSep_sep', bigSep_sep', bigSep_sep',
    ← Transfers.pointsTo_deal (ℓ := kcLoc d) (f := kc) Finset.univ Finset.univ_nonempty (coreShare c),
    ← pointsTo_biUnion Finset.univ (ℓ := kvLoc d) (rows c) (rows_disjoint c),
    ← pointsTo_biUnion Finset.univ (ℓ := vvLoc d) (rows c) (rows_disjoint c),
    ← pointsTo_biUnion Finset.univ (ℓ := koLoc d) (blk c) (blk_disjoint c),
    ← pointsTo_biUnion Finset.univ (ℓ := voLoc d) (blk c) (blk_disjoint c), rows_cover, blk_cover]

end Deal

/-! ## What the handshakes carry -/

variable (m : (ℓ : Loc nD τ sig) → Buf (Elt F) ℓ)

/-- The operands' contents at the call: the key cache, the new keys and the new values, batch and head as one axis. -/
def kcC (d : Dev nD) : Buf (Elt F) (kcLoc d) := shapeCast S256x2048x128 (m ((SparseCore.T d).loc main_arg0)) shapeCasts_S16x16x2048x128_S256x2048x128
def kvC (d : Dev nD) : Buf (Elt F) (kvLoc d) := shapeCast S256x32x128 (m ((SparseCore.T d).loc main_arg3)) shapeCasts_S16x16x32x128_S256x32x128
def vvC (d : Dev nD) : Buf (Elt F) (vvLoc d) := shapeCast S256x32x128 (m ((SparseCore.T d).loc main_arg4)) shapeCasts_S16x16x32x128_S256x32x128
/-- The results' contents after it. -/
def koC (d : Dev nD) : Buf (Elt F) (koLoc d) := updated (kcC m d) (kvC m d)
def voC (d : Dev nD) : Buf (Elt F) (voLoc d) := updated (kcC m d) (vvC m d)

/-- What SparseCore `c`, and its subcore `s`, is handed, and what it brings back. -/
abbrev coreIn (d : Dev nD) (c : Fin 2) : sProp 𝕄 := corePts d (kcC m d) (kvC m d) (vvC m d) (m (koLoc d)) (m (voLoc d)) c
abbrev coreOut (d : Dev nD) (c : Fin 2) : sProp 𝕄 := corePts d (kcC m d) (kvC m d) (vvC m d) (koC m d) (voC m d) c
abbrev tileIn (d : Dev nD) (c : Fin 2) (s : Fin 16) : sProp 𝕄 := tilePts d c s (kcC m d) (kvC m d) (vvC m d) (m (koLoc d)) (m (voLoc d))
abbrev tileOut (d : Dev nD) (c : Fin 2) (s : Fin 16) : sProp 𝕄 := tilePts d c s (kcC m d) (kvC m d) (vvC m d) (koC m d) (voC m d)

def P : (K (F := F)).Pay (nD := nD) (Val := Elt F) (Name := ℕ) (U := UU) where
  st := fun q d c => match q with | 0 => coreIn m d (Fin.cast nCore_zero c)
  dn := fun q d c => match q with | 0 => coreOut m d (Fin.cast nCore_zero c)
  go := fun q d c i => match q with | 0 => tileIn m d (Fin.cast nCore_zero c) (Fin.cast nSub_zero i)
  td := fun q d c i => match q with | 0 => tileOut m d (Fin.cast nCore_zero c) (Fin.cast nSub_zero i)
  x := fun _ _ => iprop(emp)

instance P_storable : (P (F := F) m).IsStorable where
  st q d c := match q with | 0 => (inferInstance : BI.Storable (upEmb : UEmb _ 𝕄) (coreIn m d (Fin.cast nCore_zero c)))
  dn q d c := match q with | 0 => (inferInstance : BI.Storable (upEmb : UEmb _ 𝕄) (coreOut m d (Fin.cast nCore_zero c)))
  go q d c i := match q with | 0 => (inferInstance : BI.Storable (upEmb : UEmb _ 𝕄) (tileIn m d (Fin.cast nCore_zero c) (Fin.cast nSub_zero i)))
  td q d c i := match q with | 0 => (inferInstance : BI.Storable (upEmb : UEmb _ 𝕄) (tileOut m d (Fin.cast nCore_zero c) (Fin.cast nSub_zero i)))

/-! ## A subcore's obligation -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          kcM (Memref.isWhole_whole _) kvM (Memref.isWhole_whole _) vvM (Memref.isWhole_whole _) koM (Memref.isWhole_whole _) voM (Memref.isWhole_whole _)
          zM (Memref.isWhole_whole _) krM (Memref.isWhole_whole _) vrM (Memref.isWhole_whole _) cc0_scratch3 cc0_scratch4 cc0_scratch5 cc0_scratch6) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF O W hO (kcC m d) (kvC m d) (vvC m d) (m (koLoc d)) (m (voLoc d))).trans
    (wp_mono frame _ _ fun _ => obl_post)

/-! ## A SparseCore's part split among its subcores, and put together -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
theorem vecSplit : (K (F := F)).VecSplit' (P m) 0 := by
  intro d c
  show coreIn m d (Fin.cast nCore_zero c) ⊢ |={Set.univ}=> iprop(
      (bigSep Finset.univ fun i : Fin ((K (F := F)).nSub 0) => tileIn m d (Fin.cast nCore_zero c) (Fin.cast nSub_zero i))
      ∗ ((bigSep Finset.univ fun i : Fin ((K (F := F)).nSub 0) => tileOut m d (Fin.cast nCore_zero c) (Fin.cast nSub_zero i))
          -∗ coreOut m d (Fin.cast nCore_zero c)))
  rw [bigSep_tasks (F := F) (fun i => tileIn m d (Fin.cast nCore_zero c) i), bigSep_tasks (F := F) (fun i => tileOut m d (Fin.cast nCore_zero c) i)]
  unfold coreIn coreOut
  rw [corePts_eq, corePts_eq]
  iintro H; imodintro
  isplitl [H]; · iexact H
  iintro Ho; iexact Ho

/-! ## The launch's ghost state -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

end Cert.Proof.Update

end
-- ==== Proof.Main.lean ====
/-
  The run of the whole program: three reshapes, the call, two reshapes.
-/
module

public import proofs.«01_k».proof.Proof.Launch
public import Idealize.ShloMosaic.Lib.Pipeline.Frame

@[expose] public section

noncomputable section

namespace Cert.Proof.Update

open Cert.KernelIdeal Cert.KernelIdeal.Gen

open Idealize.ShloMosaic
open Idealize.ShloMosaic.SparseCore.Cfg (HIx Pay tileRest ownBufs ownSems0 ownCells ownRefs mem_ownCells mem_ownRefs)
open Idealize.ShloMosaic.StableHlo (held held_congr held_sub_split wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The host operations and what they compute -/

abbrev ref (b : Ref sig .tc) : DevRef τ sig := Proc.devRef .tc b

abbrev opKc : HloOp τ sig (Elt F) := StableHlo.reshape main_arg0 main_v0 (rfl : (.f16 : EltTy) = .f16) shapeCasts_S16x16x2048x128_S256x2048x128
abbrev opKv : HloOp τ sig (Elt F) := StableHlo.reshape main_arg3 main_v1 (rfl : (.f16 : EltTy) = .f16) shapeCasts_S16x16x32x128_S256x32x128
abbrev opVv : HloOp τ sig (Elt F) := StableHlo.reshape main_arg4 main_v2 (rfl : (.f16 : EltTy) = .f16) shapeCasts_S16x16x32x128_S256x32x128
abbrev opKo : HloOp τ sig (Elt F) := StableHlo.reshape main_v3_0 main_v4 (rfl : (.f16 : EltTy) = .f16) shapeCasts_S256x2048x128_S16x16x2048x128
abbrev opVo : HloOp τ sig (Elt F) := StableHlo.reshape main_v3_1 main_v5 (rfl : (.f16 : EltTy) = .f16) shapeCasts_S256x2048x128_S16x16x2048x128

/-- The call's arrays. -/
def callRefs : Finset (DevRef τ sig) := {ref main_v0, ref main_v1, ref main_v2, ref main_v3_0, ref main_v3_1}
/-- All of the TensorCore's. -/
abbrev allRefs : Finset (DevRef τ sig) := Pipeline.ucRefs τ sig

theorem callRefs_sub : callRefs ⊆ allRefs := by
  intro b hb
  simp only [callRefs, Finset.mem_insert, Finset.mem_singleton] at hb
  rcases hb with rfl | rfl | rfl | rfl | rfl <;>
    exact Finset.mem_filter.mpr ⟨StableHlo.devRef_mem_tcRefs _, by decide⟩

theorem held_call (d : Dev nD) (W : Valuation τ sig (Elt F)) :
    (held (SparseCore.T d) callRefs W : sProp 𝕄)
      = callPts d (W (ref main_v0)) (W (ref main_v1)) (W (ref main_v2)) (W (ref main_v3_0)) (W (ref main_v3_1)) := by
  unfold held callRefs
  rw [SparseCore.bigSep_insert' (by decide), SparseCore.bigSep_insert' (by decide), SparseCore.bigSep_insert' (by decide),
    SparseCore.bigSep_insert' (by decide), bigSep_singleton]

variable (m : (ℓ : Loc nD τ sig) → Buf (Elt F) ℓ) (ρ : Dev nD → PrngReg)

/-- The arrays' contents at the launch, before the call, after it, and at the end. -/
def V0 (d : Dev nD) : Valuation τ sig (Elt F) := fun b => m (d, b)
def V3 (d : Dev nD) : Valuation τ sig (Elt F) := (opVv (F := F)).result ((opKv (F := F)).result ((opKc (F := F)).result (V0 m d)))
def V4 (d : Dev nD) : Valuation τ sig (Elt F) := Function.update (Function.update (V3 m d) (ref main_v3_0) (koC m d)) (ref main_v3_1) (voC m d)
def V6 (d : Dev nD) : Valuation τ sig (Elt F) := (opVo (F := F)).result ((opKo (F := F)).result (V4 m d))

theorem V3_of_ne (d : Dev nD) {b : Ref sig .tc} (h0 : b ≠ main_v0) (h1 : b ≠ main_v1) (h2 : b ≠ main_v2) : V3 m d (ref b) = m (d, ref b) := by
  unfold V3
  rw [StableHlo.reshape_result_ne _ _ _ _ _ _ _ h2, StableHlo.reshape_result_ne _ _ _ _ _ _ _ h1, StableHlo.reshape_result_ne _ _ _ _ _ _ _ h0]
  rfl
theorem V3_kc (d : Dev nD) : V3 m d (ref main_v0) = kcC m d := by
  unfold V3
  rw [StableHlo.reshape_result_ne _ _ _ _ _ _ _ (by decide), StableHlo.reshape_result_ne _ _ _ _ _ _ _ (by decide), StableHlo.reshape_result]
  rfl
theorem V3_kv (d : Dev nD) : V3 m d (ref main_v1) = kvC m d := by
  unfold V3
  rw [StableHlo.reshape_result_ne _ _ _ _ _ _ _ (by decide), StableHlo.reshape_result, StableHlo.reshape_result_ne _ _ _ _ _ _ _ (by decide)]
  rfl
theorem V3_vv (d : Dev nD) : V3 m d (ref main_v2) = vvC m d := by
  unfold V3
  rw [StableHlo.reshape_result, StableHlo.reshape_result_ne _ _ _ _ _ _ _ (by decide), StableHlo.reshape_result_ne _ _ _ _ _ _ _ (by decide)]
  rfl

theorem V4_of_ne (d : Dev nD) {b : DevRef τ sig} (h0 : b ≠ ref main_v3_0) (h1 : b ≠ ref main_v3_1) : V4 m d b = V3 m d b :=
  (Function.update_of_ne h1 _ _).trans (Function.update_of_ne h0 _ _)
theorem V4_vo (d : Dev nD) : V4 m d (ref main_v3_1) = voC m d := Function.update_self _ _ _
theorem V4_ko (d : Dev nD) : V4 m d (ref main_v3_0) = koC m d :=
  (Function.update_of_ne (show ref main_v3_0 ≠ ref main_v3_1 by decide) _ _).trans (Function.update_self _ _ _)

/-- The results at the end: the call's, batch and head as two axes again. -/
def kOut (d : Dev nD) : Buf (Elt F) ((SparseCore.T d : Thread nD τ).loc main_v4) := shapeCast S16x16x2048x128 (koC m d) shapeCasts_S256x2048x128_S16x16x2048x128
def vOut (d : Dev nD) : Buf (Elt F) ((SparseCore.T d : Thread nD τ).loc main_v5) := shapeCast S16x16x2048x128 (voC m d) shapeCasts_S256x2048x128_S16x16x2048x128

theorem V6_k (d : Dev nD) : V6 m d (ref main_v4) = kOut m d := by
  unfold V6
  rw [StableHlo.reshape_result_ne _ _ _ _ _ _ _ (by decide), StableHlo.reshape_result, V4_ko]
  rfl
theorem V6_v (d : Dev nD) : V6 m d (ref main_v5) = vOut m d := by
  unfold V6
  rw [StableHlo.reshape_result, StableHlo.reshape_result_ne _ _ _ _ _ _ _ (by decide), V4_vo]
  rfl
/-- An argument is at its launch contents. -/
theorem V6_arg (d : Dev nD) {b : Ref sig .tc} (h : b ∉ ({main_v0, main_v1, main_v2, main_v3_0, main_v3_1, main_v4, main_v5} : Finset (Ref sig .tc))) :
    V6 m d (ref b) = m (d, ref b) := by
  simp only [Finset.mem_insert, Finset.mem_singleton, not_or] at h
  obtain ⟨h0, h1, h2, h3, h4, h5, h6⟩ := h
  unfold V6
  rw [StableHlo.reshape_result_ne _ _ _ _ _ _ _ h6, StableHlo.reshape_result_ne _ _ _ _ _ _ _ h5,
    V4_of_ne m d (StableHlo.devRef_ne_of_ne h3) (StableHlo.devRef_ne_of_ne h4), V3_of_ne m d h0 h1 h2]

/-! ## The arrays around the call -/

/-- The arrays the call does not touch. -/
abbrev restRefs : Finset (DevRef τ sig) := allRefs \ callRefs

theorem held_before (d : Dev nD) : (held (SparseCore.T d) allRefs (V3 m d) : sProp 𝕄)
    = iprop(callPts d (kcC m d) (kvC m d) (vvC m d) (m (koLoc d)) (m (voLoc d)) ∗ held (SparseCore.T d) restRefs (V3 m d)) := by
  rw [held_sub_split _ callRefs_sub, held_call, V3_kc, V3_kv, V3_vv, V3_of_ne m d (by decide) (by decide) (by decide), V3_of_ne m d (by decide) (by decide) (by decide)]
theorem held_after (d : Dev nD) : (held (SparseCore.T d) allRefs (V4 m d) : sProp 𝕄)
    = iprop(callPts d (kcC m d) (kvC m d) (vvC m d) (koC m d) (voC m d) ∗ held (SparseCore.T d) restRefs (V3 m d)) := by
  rw [held_sub_split _ callRefs_sub, held_call, V4_of_ne m d (by decide) (by decide), V4_of_ne m d (by decide) (by decide), V4_of_ne m d (by decide) (by decide),
    V3_kc, V3_kv, V3_vv, V4_ko, V4_vo]
  congr 1

variable [FloatOps F]

omit [FloatOps F] in
theorem st0_eq (d : Dev nD) : (bigSep Finset.univ fun c : Fin ((K (F := F)).nCore 0) => (P m).st 0 d c)
    = callPts d (kcC m d) (kvC m d) (vvC m d) (m (koLoc d)) (m (voLoc d)) :=
  (bigSep_cores (F := F) (fun c => coreIn m d c)).trans (callPts_eq d _ _ _ _ _).symm
omit [FloatOps F] in
theorem dn0_eq (d : Dev nD) : (bigSep Finset.univ fun c : Fin ((K (F := F)).nCore 0) => (P m).dn 0 d c)
    = callPts d (kcC m d) (kvC m d) (vvC m d) (koC m d) (voC m d) :=
  (bigSep_cores (F := F) (fun c => coreOut m d c)).trans (callPts_eq d _ _ _ _ _).symm

theorem bufs_sub (op : HloOp τ sig (Elt F)) (h : op.bufs ⊆ StableHlo.tcRefs τ sig) : op.bufs ⊆ allRefs := Pipeline.sub_ucRefs op h

/-- What is left at the end: every array at its contents. -/
abbrev FIN (d : Dev nD) : sProp 𝕄 := held (SparseCore.T d) allRefs (V6 m d)

/-- The program on device `d`'s TensorCore: the operands' reshapes, the call from the five arrays, the results' reshapes. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) allRefs (V0 m d) from
    Pipeline.unscopedBufs_held d (V0 m d)]
  simp only [main, wp_bind, wp_pure]
  iintro ⟨#Hctx, Hst, ⟨Hb, Hheld, Hts, -⟩, -⟩
  iapply (wp_hlo_within 𝒱 (SparseCore.T d) none Set.univ (op := opKc) (S := allRefs) (bufs_sub _ (StableHlo.reshape_bufs_sub _ _ _ _ _ _)) (V := V0 m d)) $$ [Hb Hheld]
  · isplitl [Hb] <;> iassumption
  iintro ⟨Hb, Hheld⟩
  rw [wp_ret]; imodintro
  iapply (wp_hlo_within 𝒱 (SparseCore.T d) none Set.univ (op := opKv) (S := allRefs) (bufs_sub _ (StableHlo.reshape_bufs_sub _ _ _ _ _ _))
    (V := (opKc (F := F)).result (V0 m d))) $$ [Hb Hheld]
  · isplitl [Hb] <;> iassumption
  iintro ⟨Hb, Hheld⟩
  rw [wp_ret]; imodintro
  iapply (wp_hlo_within 𝒱 (SparseCore.T d) none Set.univ (op := opVv) (S := allRefs) (bufs_sub _ (StableHlo.reshape_bufs_sub _ _ _ _ _ _))
    (V := (opKv (F := F)).result ((opKc (F := F)).result (V0 m d)))) $$ [Hb Hheld]
  · isplitl [Hb] <;> iassumption
  iintro ⟨Hb, Hheld⟩
  rw [wp_ret]; imodintro
  ihave Hheld := (show held (SparseCore.T d) allRefs ((opVv (F := F)).result ((opKv (F := F)).result ((opKc (F := F)).result (V0 m d)))) ⊢ _ from
    Entails.of_eq (held_before (F := F) m d)) $$ Hheld
  icases Hheld with ⟨Hcall, Hrest⟩
  iapply ((K (F := F)).wp_run (D (F := F)) 𝒱 (EH := EH) (P := P m) κ d 0) $$ [Hst Hcall Hrest Hb Hts]
  isplitr; · iexact Hctx
  isplitl [Hst]; · iexact Hst
  isplitl [Hcall]
  · rw [st0_eq]; iexact Hcall
  iintro ⟨Hst, Hdn⟩
  ihave Hcall := (Entails.of_eq (dn0_eq (F := F) m d)) $$ Hdn
  iapply (wp_hlo_within 𝒱 (SparseCore.T d) none Set.univ (op := opKo) (S := allRefs) (bufs_sub _ (StableHlo.reshape_bufs_sub _ _ _ _ _ _)) (V := V4 m d)) $$ [Hb Hcall Hrest]
  · isplitl [Hb]; · iexact Hb
    rw [held_after]
    isplitl [Hcall] <;> iassumption
  iintro ⟨Hb, Hheld⟩
  rw [wp_ret]; imodintro
  iapply (wp_hlo_within 𝒱 (SparseCore.T d) none Set.univ (op := opVo) (S := allRefs) (bufs_sub _ (StableHlo.reshape_bufs_sub _ _ _ _ _ _))
    (V := (opKo (F := F)).result (V4 m d))) $$ [Hb Hheld]
  · isplitl [Hb] <;> iassumption
  iintro ⟨Hb, Hheld⟩
  rw [wp_ret]; imodintro; imodintro
  isplitl [Hst]; · iexact Hst
  isplitl [Hheld]; · iexact Hheld
  isplitl [Hb] <;> iassumption

/-! ## What the final memory holds -/

omit [FloatOps F] in
/-- Arrays held at a valuation are, in the machine, at it. -/
theorem held_agree (d : Dev nD) (W : Valuation τ sig (Elt F)) (s' : Phys nD τ sig (Elt F)) (R : Finset (DevRef τ sig)) :
    iprop(SI s' ∗ held (SparseCore.T d) R W) ⊢ (⌜∀ b ∈ R, s'.mem.mem (d, b) = W b⌝ : sProp 𝕄) := by
  induction R using Finset.induction_on with
  | empty => iintro -; ipureintro; exact fun b hb => absurd hb (Finset.notMem_empty b)
  | insert a R ha ih =>
    unfold held at ih ⊢
    rw [SparseCore.bigSep_insert' ha]
    iintro ⟨HSI, Ha, HR⟩
    ihave H := (persistent_entails_right (SI_pointsTo_agree (st := s') (ℓ := (d, a)) (I := Finset.univ) (q := fullShare) (f := W a))) $$ [HSI Ha]
    · isplitl [HSI] <;> iassumption
    icases H with ⟨%h, HSI, -⟩
    ihave H := ih $$ [HSI HR]
    · isplitl [HSI] <;> iassumption
    icases H with %h'
    ipureintro
    intro b hb
    rcases Finset.mem_insert.mp hb with rfl | hb
    · exact funext fun i => h i (Finset.mem_univ i)
    · exact h' b hb

def fq (d : Dev nD) (s' : Phys nD τ sig (Elt F)) : Prop := ∀ b ∈ allRefs, s'.mem.mem (d, b) = V6 m d b

omit [FloatOps F] in
theorem hfin (d : Dev nD) (s' : Phys nD τ sig (Elt F)) : iprop(FIN m d ∗ SI s') ⊢ (⌜fq m d s'⌝ : sProp 𝕄) := by
  iintro ⟨H, HSI⟩
  iapply (held_agree d (V6 m d) s' allRefs)
  isplitl [HSI] <;> iassumption

/-! ## The run -/

def QC : PUnit × MemSt nD τ sig (Elt F) → Prop := fun r =>
  (∀ c : Dev nD, r.2.mem ((SparseCore.T c).loc main_v4) = kOut m c ∧ r.2.mem ((SparseCore.T c).loc main_v5) = vOut m c
    ∧ r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)
    ∧ r.2.mem ((SparseCore.T c).loc main_arg4) = m ((SparseCore.T c).loc main_arg4))
  ∧ r.2.sem = fun _ => 0

omit [FloatOps F] in
theorem fq_at {d : Dev nD} {s' : Phys nD τ sig (Elt F)} (h : fq m d s') {b : Ref sig .tc} (hb : ¬ b.isScoped := by decide) :
    s'.mem.mem (d, ref b) = V6 m d (ref b) :=
  h _ (Finset.mem_filter.mpr ⟨StableHlo.devRef_mem_tcRefs b, hb⟩)

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨fun c => ⟨(fq_at m (h c)).trans (V6_k m c), (fq_at m (h c)).trans (V6_v m c),
      (fq_at m (h c)).trans (V6_arg m c (by decide)), (fq_at m (h c)).trans (V6_arg m c (by decide)), (fq_at m (h c)).trans (V6_arg m c (by decide)),
      (fq_at m (h c)).trans (V6_arg m c (by decide)), (fq_at m (h c)).trans (V6_arg m c (by decide))⟩, hz⟩)

end Cert.Proof.Update

end
-- ==== Proof.Rows.lean ====
/-
  What the reference computes.

  It writes 32 new rows into a 16 × 16 × 2048 × 128 cache at the rows that a vector of 32 positions names, by a scatter
  whose update takes the place of the element it lands on. A negative position counts from the end, so the positions
  pass through a select first. Where the positions are 0, 1, …, 31, the result holds the new rows in rows 0 to 31 of
  every batch and head, and the cache in the others.
-/
module

public import Idealize.ShloMosaic.PureOps
public import Idealize.ShloMosaic.Lib.WordCmp
public import Idealize.ShloMosaic.Lib.Pointwise.Index
public import Idealize.ShloMosaic.Lib.Routing.OpsSet

@[expose] public section

noncomputable section

namespace Cert.Proof.Update

open Idealize.ShloMosaic

/-- A cache, the new rows, the positions, and the positions as a column. -/
abbrev Cache : Shape := ⟨4, ![16, 16, 2048, 128]⟩
abbrev NewRows : Shape := ⟨4, ![16, 16, 32, 128]⟩
abbrev Pos : Shape := ⟨1, ![32]⟩
abbrev PosColumn : Shape := ⟨2, ![32, 1]⟩

/-- The index with coordinates `a`, `b`, `c`, `d`. -/
def at4 {p q r s : ℕ} (a : Fin p) (b : Fin q) (c : Fin r) (d : Fin s) : (⟨4, ![p, q, r, s]⟩ : Shape).Idx := fun
  | 0 => a
  | 1 => b
  | 2 => c
  | 3 => d

/-- An index is told by the values of its four coordinates. -/
theorem at4_ext {p q r s : ℕ} {i : (⟨4, ![p, q, r, s]⟩ : Shape).Idx} {a : Fin p} {b : Fin q} {c : Fin r} {d : Fin s}
    (h0 : a.val = (i 0).val) (h1 : b.val = (i 1).val) (h2 : c.val = (i 2).val) (h3 : d.val = (i 3).val) : at4 a b c d = i := by
  funext t
  match t with
  | 0 => exact Fin.ext h0
  | 1 => exact Fin.ext h1
  | 2 => exact Fin.ext h2
  | 3 => exact Fin.ext h3

/-- The cache `x` with rows 0 to 31 of every batch and head replaced by the new rows `u`. -/
def withRows {α : Type} (x : Cache.Idx → α) (u : NewRows.Idx → α) : Cache.Idx → α := fun i =>
  if h : (i 2).val < 32 then u (at4 (i 0) (i 1) ⟨(i 2).val, h⟩ (i 3)) else x i

theorem withRows_of_lt {α : Type} (x : Cache.Idx → α) (u : NewRows.Idx → α) {i : Cache.Idx} (h : (i 2).val < 32) :
    withRows x u i = u (at4 (i 0) (i 1) ⟨(i 2).val, h⟩ (i 3)) := dif_pos h

theorem withRows_of_not_lt {α : Type} (x : Cache.Idx → α) (u : NewRows.Idx → α) {i : Cache.Idx} (h : ¬(i 2).val < 32) :
    withRows x u i = x i := dif_neg h

/-- How the reference's scatter reads its positions: one position for each new row, on the cache's third axis. -/
def rowDims (h : ScatterDims.WF Cache PosColumn NewRows [0, 1, 3] [2] [2] 1) : ScatterDims Cache PosColumn NewRows where
  updateWindowDims := [0, 1, 3]
  insertedWindowDims := [2]
  scatterDimsToOperandDims := [2]
  indexVectorDim := 1
  wf := h

section Lands

variable (h : ScatterDims.WF Cache PosColumn NewRows [0, 1, 3] [2] [2] 1) (idx : IVec PosColumn 32)

/-- The position that row `c` of the updates reads. -/
def posAt (c : Fin 32) : PosColumn.Idx := fun
  | 0 => c
  | 1 => (0 : Fin 1)

/-- Update `k` lands at `i` exactly when they agree in batch, head and column, and `k`'s position is `i`'s row. -/
theorem lands_row (k : NewRows.Idx) (i : Cache.Idx) :
    (rowDims h).resultIdx? k idx = some i
      ↔ (k 0).val = (i 0).val ∧ (k 1).val = (i 1).val ∧ (idx (posAt (k 2))).toInt = ((i 2).val : Int) ∧ (k 3).val = (i 3).val := by
  have s0 : (rowDims h).start k idx 0 = 0 := dif_neg (show (0 : Fin 4) ∉ [(2 : Fin 4)] by decide)
  have s1 : (rowDims h).start k idx 1 = 0 := dif_neg (show (1 : Fin 4) ∉ [(2 : Fin 4)] by decide)
  have s3 : (rowDims h).start k idx 3 = 0 := dif_neg (show (3 : Fin 4) ∉ [(2 : Fin 4)] by decide)
  have s2 : (rowDims h).start k idx 2 = (idx (posAt (k 2))).toInt := by
    refine (dif_pos (show (2 : Fin 4) ∈ [(2 : Fin 4)] by decide)).trans (congrArg (fun q => (idx q).toInt) (funext fun b => ?_))
    match b with
    | 0 => rfl
    | 1 => exact Subsingleton.elim (α := Fin 1) _ _
  have w0 : (rowDims h).window k 0 = (k 0).val := rfl
  have w1 : (rowDims h).window k 1 = (k 1).val := rfl
  have w2 : (rowDims h).window k 2 = 0 := rfl
  have w3 : (rowDims h).window k 3 = (k 3).val := rfl
  rw [Routing.resultIdx?_eq_some]
  constructor
  · intro e
    have e0 := e 0
    have e1 := e 1
    have e2 := e 2
    have e3 := e 3
    rw [s0, w0] at e0
    rw [s1, w1] at e1
    rw [s2, w2] at e2
    rw [s3, w3] at e3
    exact ⟨by omega, by omega, by omega, by omega⟩
  · rintro ⟨e0, e1, e2, e3⟩ a
    match a with
    | 0 => exact (congrArg₂ (fun p (q : ℕ) => p + (q : Int)) s0 w0).trans (by omega)
    | 1 => exact (congrArg₂ (fun p (q : ℕ) => p + (q : Int)) s1 w1).trans (by omega)
    | 2 => exact (congrArg₂ (fun p (q : ℕ) => p + (q : Int)) s2 w2).trans (by omega)
    | 3 => exact (congrArg₂ (fun p (q : ℕ) => p + (q : Int)) s3 w3).trans (by omega)

/-- With the positions 0, 1, …, 31 the scatter leaves the cache with its first 32 rows replaced. -/
theorem scatter_rows {α : Type} (hidx : ∀ c : Fin 32, (idx (posAt c)).toInt = (c.val : Int)) (x : Cache.Idx → α)
    (u : NewRows.Idx → α) : Host.scatter (rowDims h) (fun _ b => b) x idx u = withRows x u := by
  funext i
  by_cases hi : (i 2).val < 32
  · refine (Routing.scatter_set_hit (rowDims h) x idx u i (u (at4 (i 0) (i 1) ⟨(i 2).val, hi⟩ (i 3))) (fun k hk => ?_)
      (at4 (i 0) (i 1) ⟨(i 2).val, hi⟩ (i 3)) ((lands_row h idx _ i).2 ⟨rfl, rfl, hidx _, rfl⟩)).trans (withRows_of_lt x u hi).symm
    obtain ⟨e0, e1, e2, e3⟩ := (lands_row h idx k i).1 hk
    have e2' : ((k 2).val : Int) = ((i 2).val : Int) := (hidx (k 2)).symm.trans e2
    exact congrArg u (at4_ext e0.symm e1.symm (by show (i 2).val = (k 2).val; omega) e3.symm).symm
  · refine (Routing.scatter_set_miss (rowDims h) x idx u i fun k hk => ?_).trans (withRows_of_not_lt x u hi).symm
    have e2' : ((k 2).val : Int) = ((i 2).val : Int) := (hidx (k 2)).symm.trans ((lands_row h idx k i).1 hk).2.2.1
    have : (k 2).val < 32 := (k 2).isLt
    omega

end Lands

/-- The positions as the reference hands them to its scatter: a negative one raised by 2048, then as a column. -/
abbrev column (hb : (⟨0, ![]⟩ : Shape).BroadcastsInDim Pos (![] : Fin 0 → Fin Pos.rank))
    (hc : Pos.BroadcastsInDim PosColumn (![0] : Fin 1 → Fin PosColumn.rank)) (p : IVec Pos 32) : IVec PosColumn 32 :=
  broadcastInDim PosColumn ![0] hc
    (select (cmpi .slt p (broadcastInDim Pos ![] hb (constantI (⟨0, ![]⟩ : Shape) 32 0#32)))
      (addi p (broadcastInDim Pos ![] hb (constantI (⟨0, ![]⟩ : Shape) 32 2048#32))) p)

/-- The positions 0, 1, …, 31 are none of them negative, so they pass through the select unchanged. -/
theorem column_iota (hb : (⟨0, ![]⟩ : Shape).BroadcastsInDim Pos (![] : Fin 0 → Fin Pos.rank))
    (hc : Pos.BroadcastsInDim PosColumn (![0] : Fin 1 → Fin PosColumn.rank)) (p : IVec Pos 32) (hp : p = iotaInDim Pos 32 0)
    (c : Fin 32) : (column hb hc p (posAt c)).toInt = (c.val : Int) := by
  have key : ∀ c : Fin 32, (Scalar.select (IntOp.cmpi .slt (BitVec.ofNat 32 c.val) 0#32)
      (IntOp.addi (BitVec.ofNat 32 c.val) 2048#32) (BitVec.ofNat 32 c.val)).toInt = (c.val : Int) := by decide
  subst hp
  exact key c

/-- The reference's result: with the positions 0, 1, …, 31, the cache with its first 32 rows replaced. -/
theorem scatter_column {α : Type} (h : ScatterDims.WF Cache PosColumn NewRows [0, 1, 3] [2] [2] 1)
    (hb : (⟨0, ![]⟩ : Shape).BroadcastsInDim Pos (![] : Fin 0 → Fin Pos.rank))
    (hc : Pos.BroadcastsInDim PosColumn (![0] : Fin 1 → Fin PosColumn.rank)) (p : IVec Pos 32) (hp : p = iotaInDim Pos 32 0)
    (x : Cache.Idx → α) (u : NewRows.Idx → α) :
    Host.scatter (rowDims h) (fun _ b => b) x (column hb hc p) u = withRows x u :=
  scatter_rows h _ (column_iota hb hc p hp) x u

end Cert.Proof.Update

end
-- ==== Proof.Equation.lean ====
/-
  The kernel's result against the reference's.

  The kernel works on the caches and the new rows with batch and head merged into one axis of 256. Split again, its
  result holds the new rows in rows 0 to 31 of every batch and head; in the 2016 rows after them it holds the first
  1008 rows of the key cache's first batch and head, twice. Where the cache holds just that in those rows, the kernel's
  result is the cache with its first 32 rows replaced; in the first 32 rows it is so whatever the cache holds.
-/
module

public import proofs.«01_k».proof.Proof.Rows
public import proofs.«01_k».proof.Proof.Windows

@[expose] public section

noncomputable section

namespace Cert.Proof.Update

open Cert.KernelIdeal
open Idealize.ShloMosaic

variable {α : Type}

/-- Of the 1008 rows written twice, the one that comes to row `r`. -/
def freshRow (r : Fin 2048) : Fin 2048 := ⟨(r.val - 32) % 1008, by omega⟩

/-- The rows from 32 on of every batch and head of `cache` are rows 0 to 1007 of the first batch and head of `kc`, twice. -/
def Fresh (kc cache : Cache.Idx → α) : Prop :=
  ∀ i : Cache.Idx, 32 ≤ (i 2).val → cache i = kc (at4 (0 : Fin 16) (0 : Fin 16) (freshRow (i 2)) (i 3))

/-- The kernel's result from the key cache `kc` and the new rows `x`, as it leaves the program. -/
abbrev kernelOut (kc : Cache.Idx → α) (x : NewRows.Idx → α) (h₁ : Cache.ShapeCasts S256x2048x128) (h₂ : NewRows.ShapeCasts S256x32x128)
    (h₃ : S256x2048x128.ShapeCasts Cache) : Cache.Idx → α :=
  shapeCast Cache (updated (shapeCast S256x2048x128 kc h₁) (shapeCast S256x32x128 x h₂)) h₃

/-- A cast of an array to another shape read at an index: the element at the same row-major place. -/
theorem cast_at {s t : Shape} (x : s.Idx → α) (h : s.ShapeCasts t) (j : t.Idx) (i : s.Idx)
    (e : (s.rowMajor i).val = (t.rowMajor j).val) : shapeCast t x h j = x i :=
  congrArg x (Shape.reshapeEquiv_eq_of_rowMajor h e)

section Merged

variable (kc : Cache.Idx → α) (x : NewRows.Idx → α) (h₁ : Cache.ShapeCasts S256x2048x128) (h₂ : NewRows.ShapeCasts S256x32x128)
  (h₃ : S256x2048x128.ShapeCasts Cache) (i : Cache.Idx)

/-- Batch and head as one coordinate. -/
def merge : Fin 256 := ⟨16 * (i 0).val + (i 1).val, by
  have h0 : (i 0).val < 16 := (i 0).isLt
  have h1 : (i 1).val < 16 := (i 1).isLt
  omega⟩

theorem kernelOut_merged : kernelOut kc x h₁ h₂ h₃ i
    = updated (shapeCast S256x2048x128 kc h₁) (shapeCast S256x32x128 x h₂) (at3 (merge i) (i 2) (i 3)) := by
  refine cast_at _ h₃ i _ ?_
  rw [Shape.rowMajor_val_three, Shape.rowMajor_val_four]
  show ((16 * (i 0).val + (i 1).val) * 2048 + (i 2).val) * 128 + (i 3).val = (((i 0).val * 16 + (i 1).val) * 2048 + (i 2).val) * 128 + (i 3).val
  omega

/-- In the first 32 rows the kernel's result is the new rows, -/
theorem kernelOut_of_lt (h : (i 2).val < 32) : kernelOut kc x h₁ h₂ h₃ i = x (at4 (i 0) (i 1) ⟨(i 2).val, h⟩ (i 3)) := by
  rw [kernelOut_merged, updated_of_lt _ _ (i := at3 (merge i) (i 2) (i 3)) h]
  refine cast_at _ h₂ _ _ ?_
  rw [Shape.rowMajor_val_three, Shape.rowMajor_val_four]
  show (((i 0).val * 16 + (i 1).val) * 32 + (i 2).val) * 128 + (i 3).val = ((16 * (i 0).val + (i 1).val) * 32 + (i 2).val) * 128 + (i 3).val
  omega

/-- and in the rows after them it is the first rows of the key cache. -/
theorem kernelOut_of_ge (h : 32 ≤ (i 2).val) :
    kernelOut kc x h₁ h₂ h₃ i = kc (at4 (0 : Fin 16) (0 : Fin 16) (freshRow (i 2)) (i 3)) := by
  rw [kernelOut_merged, updated_of_ge _ _ (i := at3 (merge i) (i 2) (i 3)) (y := at3 (0 : Fin 256) (freshRow (i 2)) (i 3)) h rfl rfl rfl]
  refine cast_at _ h₁ _ _ ?_
  rw [Shape.rowMajor_val_three, Shape.rowMajor_val_four]
  show ((0 * 16 + 0) * 2048 + (freshRow (i 2)).val) * 128 + (i 3).val = (0 * 2048 + (freshRow (i 2)).val) * 128 + (i 3).val
  omega

/-- In the first 32 rows the kernel's result is the reference's, whatever the caches hold. -/
theorem kernelOut_eq_of_lt (cache : Cache.Idx → α) (h : (i 2).val < 32) : kernelOut kc x h₁ h₂ h₃ i = withRows cache x i :=
  (kernelOut_of_lt kc x h₁ h₂ h₃ i h).trans (withRows_of_lt cache x h).symm

end Merged

/-- Over a fresh cache the kernel's result is the reference's in every element. -/
theorem kernelOut_eq (kc cache : Cache.Idx → α) (x : NewRows.Idx → α) (h₁ : Cache.ShapeCasts S256x2048x128)
    (h₂ : NewRows.ShapeCasts S256x32x128) (h₃ : S256x2048x128.ShapeCasts Cache) (hf : Fresh kc cache) :
    kernelOut kc x h₁ h₂ h₃ = withRows cache x := by
  funext i
  by_cases h : (i 2).val < 32
  · exact kernelOut_eq_of_lt kc x h₁ h₂ h₃ i cache h
  · exact (kernelOut_of_ge kc x h₁ h₂ h₃ i (Nat.le_of_not_lt h)).trans
      ((hf i (Nat.le_of_not_lt h)).symm.trans (withRows_of_not_lt cache x h).symm)

end Cert.Proof.Update

end
-- ==== Proof.Assumptions.lean ====
/-
  The preconditions and the mask of the claims, read back as statements about the arguments.

  The preconditions are programs that compare words and take the conjunction of all the comparisons. The first says that
  the positions are 0, 1, …, 31; the second also that both caches are fresh: word for word, their rows from 32 on are the
  first 1008 rows of the key cache's first batch and head, twice. The mask selects the first 32 rows of every batch and
  head.
-/
module

public import proofs.«01_k».proof.Defs
public import proofs.«01_k».proof.Proof.Equation
public import Idealize.ShloMosaic.Lib.ReduceAll
public import Idealize.ShloMosaic.Lib.Pipeline.Value

@[expose] public section

noncomputable section

namespace Cert.Proof.Update

open Idealize.ShloMosaic

theorem freshFacts : Cert.Pre_fresh_prefill.Facts where
  slices_S16x16x2048x128_S1x1x1008x128_0_0_0_0 := by decide
  shapeCasts_S1x1x1008x128_S1008x128 := by decide
  bcast_S1008x128_S16x16x1008x128_2_3 := by decide
  reducesTo_S32_S_d0 := by decide
  h_S_ := by decide
  slices_S16x16x2048x128_S16x16x1008x128_0_0_32_0 := by decide
  reducesTo_S16x16x1008x128_S_d0_1_2_3 := by decide
  slices_S16x16x2048x128_S16x16x1008x128_0_0_1040_0 := by decide

theorem positionsFacts : Cert.Pre_prefill_positions.Facts where
  reducesTo_S32_S_d0 := by decide
  h_S_ := by decide

theorem newRowsFacts : Cert.On_new_rows.Facts where
  bcast_S_S16x16x2048x128 := by decide

/-- The first index of an array without axes, which is its only one. -/
def only : (⟨0, ![]⟩ : Shape).Idx := fun a => a.elim0

instance : Subsingleton (⟨0, ![]⟩ : Shape).Idx := ⟨fun _ _ => funext fun a => a.elim0⟩

/-- Where all comparisons of the positions with 0, 1, …, 31 hold, the positions are these. -/
theorem positions_of_all (p : IVec Pos 32) (c : IVec (⟨0, ![]⟩ : Shape) 1) (h : Pos.ReducesTo [0] (⟨0, ![]⟩ : Shape))
    (hu : 0 < (⟨0, ![]⟩ : Shape).numel)
    (e : Host.reduce IntOp.andi (cmpi .eq p (iotaInDim Pos 32 0)) c h hu only = 1#1) : p = iotaInDim Pos 32 0 :=
  funext fun k => IntOp.cmpi_eq.1 (Host.reduce_andi_all _ _ h hu only e k)

/-! ## The caches -/

/-- One half of the rows from 32 on, and the rows that both halves are compared with, before the broadcast. -/
abbrev Half : Shape := ⟨4, ![16, 16, 1008, 128]⟩
abbrev FirstRows : Shape := ⟨2, ![1008, 128]⟩
abbrev FirstBlock : Shape := ⟨4, ![1, 1, 1008, 128]⟩

section Caches

variable (v : IVec Cache 16) (hs : Cache.Slices ![0, 0, 0, 0] FirstBlock) (hc : FirstBlock.ShapeCasts FirstRows)
  (hb : FirstRows.BroadcastsInDim Half (![2, 3] : Fin 2 → Fin Half.rank))

/-- The first 1008 rows of the first batch and head of `v`, for every batch and head. -/
abbrev firstRows : IVec Half 16 :=
  broadcastInDim Half ![2, 3] hb (shapeCast FirstRows (extractStridedSlice FirstBlock ![0, 0, 0, 0] v hs) hc)

/-- Row `r` of a half, counted in the whole cache from row `o` on. -/
def rowFrom (o : ℕ) (ho : o + 1008 ≤ 2048) (r : Fin 1008) : Fin 2048 := ⟨o + r.val, by omega⟩

theorem firstRows_at (b h : Fin 16) (r : Fin 1008) (l : Fin 128) :
    firstRows v hs hc hb (at4 b h r l) = v (at4 (0 : Fin 16) (0 : Fin 16) (rowFrom 0 (by omega) r) l) := by
  show shapeCast FirstRows _ hc _ = _
  refine (cast_at _ hc _ (at4 (0 : Fin 1) (0 : Fin 1) r l) ?_).trans ?_
  · rw [Shape.rowMajor_val_two, Shape.rowMajor_val_four]
    show ((0 * 1 + 0) * 1008 + r.val) * 128 + l.val = r.val * 128 + l.val
    omega
  · refine extractStridedSlice_apply _ v hs _ _ fun a => ?_
    match a with
    | 0 => rfl
    | 1 => rfl
    | 2 => rfl
    | 3 => exact (Nat.zero_add _).symm

/-- Where all comparisons of a half of `w`, from row `o` on, with those rows of `v` hold, the words are equal. -/
theorem half_of_all (o : ℕ) (ho : o + 1008 ≤ 2048) (w : IVec Cache 16) (hw : Cache.Slices ![0, 0, o, 0] Half) (c : IVec (⟨0, ![]⟩ : Shape) 1)
    (hr : Half.ReducesTo [0, 1, 2, 3] (⟨0, ![]⟩ : Shape)) (hu : 0 < (⟨0, ![]⟩ : Shape).numel)
    (e : Host.reduce IntOp.andi (cmpi .eq (extractStridedSlice Half ![0, 0, o, 0] w hw) (firstRows v hs hc hb)) c hr hu only = 1#1)
    (b h : Fin 16) (r : Fin 1008) (l : Fin 128) :
    w (at4 b h (rowFrom o ho r) l) = v (at4 (0 : Fin 16) (0 : Fin 16) (rowFrom 0 (by omega) r) l) := by
  rw [← firstRows_at v hs hc hb b h r l, ← IntOp.cmpi_eq.1 (Host.reduce_andi_all _ _ hr hu only e (at4 b h r l))]
  refine (extractStridedSlice_apply _ w hw _ _ fun a => ?_).symm
  match a with
  | 0 => exact (Nat.zero_add _).symm
  | 1 => exact (Nat.zero_add _).symm
  | 2 => rfl
  | 3 => exact (Nat.zero_add _).symm

end Caches

/-- Two halves that hold the first rows make a fresh cache. -/
theorem fresh_of_halves {α : Type} (kc cache : Cache.Idx → α)
    (lo : ∀ (b h : Fin 16) (r : Fin 1008) (l : Fin 128),
      cache (at4 b h (rowFrom 32 (by omega) r) l) = kc (at4 (0 : Fin 16) (0 : Fin 16) (rowFrom 0 (by omega) r) l))
    (hi : ∀ (b h : Fin 16) (r : Fin 1008) (l : Fin 128),
      cache (at4 b h (rowFrom 1040 (by omega) r) l) = kc (at4 (0 : Fin 16) (0 : Fin 16) (rowFrom 0 (by omega) r) l)) :
    Fresh kc cache := by
  intro i h
  have hlt : (i 2).val < 2048 := (i 2).isLt
  by_cases hr : (i 2).val < 1040
  · refine ((congrArg cache (at4_ext (i := i) rfl rfl ?_ rfl)).symm.trans (lo (i 0) (i 1) ⟨(i 2).val - 32, by omega⟩ (i 3))).trans
      (congrArg kc (at4_ext rfl rfl ?_ rfl))
    · show 32 + ((i 2).val - 32) = (i 2).val
      omega
    · show 0 + ((i 2).val - 32) = ((i 2).val - 32) % 1008
      omega
  · refine ((congrArg cache (at4_ext (i := i) rfl rfl ?_ rfl)).symm.trans (hi (i 0) (i 1) ⟨(i 2).val - 1040, by omega⟩ (i 3))).trans
      (congrArg kc (at4_ext rfl rfl ?_ rfl))
    · show 1040 + ((i 2).val - 1040) = (i 2).val
      omega
    · show 0 + ((i 2).val - 1040) = ((i 2).val - 32) % 1008
      omega

/-- What the precondition `fresh_prefill` says of the positions and of the two caches. -/
theorem of_fresh_prefill (kc vc : FVec Bits Cache .f16) (p : IVec Pos 32) (k v : FVec Bits NewRows .f16)
    (e : letI := freshFacts; Cert.Pre_fresh_prefill.fn (F := Bits) kc vc p k v = fun _ => 1#1) :
    p = iotaInDim Pos 32 0 ∧ Fresh kc kc ∧ Fresh kc vc := by
  letI := freshFacts
  have e₀ := congrFun e only
  obtain ⟨e₁, v₂⟩ := IntOp.andi_eq_one.1 e₀
  obtain ⟨e₂, v₁⟩ := IntOp.andi_eq_one.1 e₁
  obtain ⟨e₃, k₂⟩ := IntOp.andi_eq_one.1 e₂
  obtain ⟨e₄, k₁⟩ := IntOp.andi_eq_one.1 e₃
  exact ⟨positions_of_all p _ _ _ e₄,
    fresh_of_halves kc kc (half_of_all (bitcastToInt kc) _ _ _ 32 (by omega) (bitcastToInt kc) _ _ _ _ k₁)
      (half_of_all (bitcastToInt kc) _ _ _ 1040 (by omega) (bitcastToInt kc) _ _ _ _ k₂),
    fresh_of_halves kc vc (half_of_all (bitcastToInt kc) _ _ _ 32 (by omega) (bitcastToInt vc) _ _ _ _ v₁)
      (half_of_all (bitcastToInt kc) _ _ _ 1040 (by omega) (bitcastToInt vc) _ _ _ _ v₂)⟩

/-- What the precondition `prefill_positions` says of the positions. -/
theorem of_prefill_positions {F : FTy → Type} [FloatOps F] (kc vc : FVec F Cache .f16) (p : IVec Pos 32) (k v : FVec F NewRows .f16)
    (e : letI := positionsFacts; Cert.Pre_prefill_positions.fn (F := F) kc vc p k v = fun _ => 1#1) : p = iotaInDim Pos 32 0 :=
  letI := positionsFacts
  positions_of_all p _ _ _ (congrFun e only)

/-- Either array of the mask `new_rows` selects rows below 32. -/
theorem lt_of_new_rows {F : FTy → Type} [FloatOps F] (kc vc : FVec F Cache .f16) (p : IVec Pos 32) (k v : FVec F NewRows .f16) (i : Cache.Idx)

    (e : letI := newRowsFacts; (Cert.On_new_rows.fn (F := F) kc vc p k v).1 i = 1#1 ∨ (Cert.On_new_rows.fn (F := F) kc vc p k v).2 i = 1#1) : (i 2).val < 32 := by
  letI := newRowsFacts
  have h : (BitVec.ofNat 32 (i 2).val).toInt < (32#32 : BitVec 32).toInt := IntOp.cmpi_slt.1 (e.elim id id)
  have hi : (i 2).val < 2048 := (i 2).isLt
  have h32 : (32#32 : BitVec 32).toInt = 32 := by decide
  rw [h32, BitVec.toInt_ofNat'] at h
  rw [Int.bmod_eq_of_le (by omega) (by omega)] at h
  omega

end Cert.Proof.Update

end
-- ==== Proof.lean ====
/-
  The proof of `Cert.Claim`: the frames, the idealization, and what the kernel computes.

  One run of the kernel's program (`run_main`), over any float values, ends with both results known; read over the words
  and over the extended reals it gives the kernel's frames and its side of the two value claims. The reference's run is
  its scatters (`Value.run`), which `scatter_column` reads. `kernelOut_eq` and `kernelOut_eq_of_lt` are the equations
  between the two.
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Main
public import proofs.«01_k».proof.Proof.Equation
public import proofs.«01_k».proof.Proof.Assumptions
public import Idealize.ShloMosaic.Adequacy
public import Idealize.ShloMosaic.Init

@[expose] public section

noncomputable section

namespace Cert.Proof

open Idealize.ShloMosaic Idealize.SL.Sem
open Cert.Proof.Update

/-! ## Frames -/

/-- The kernel over words: its run, read at its arguments and its counters. -/
theorem frame_kernel : Cert.quiescent_Kernel := fun m ρ _ =>
  (θ_run Cert.KernelIdeal.defs _ _).mono (fun _ h => ⟨fun c => (h.1 c).2.2, h.2⟩) (run_main (F := Bits) m ρ)

/-- The kernel over the extended reals. -/
theorem frame_kernelIdeal : Cert.quiescent_KernelIdeal := fun m ρ _ =>
  (θ_run Cert.KernelIdeal.defs _ _).mono (fun _ h => ⟨fun c => (h.1 c).2.2, h.2⟩) (run_main (F := Ideal) m ρ)

/-- The reference over words; it declares no semaphore. -/
theorem frame_reference : Cert.quiescent_Reference := fun m ρ _ =>
  (θ_run Cert.Reference.defs _ _).mono
    (fun r h => ⟨fun c => (h c).2.2, sem_eq_zero_of_no_sems (by decide) r.2⟩) (Cert.Reference.Value.run (F := Bits) m ρ)

/-- The reference over the extended reals. -/
theorem frame_referenceIdeal : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run (F := Ideal) m ρ)

/-! ## Values -/

/-- Over words, on fresh caches and the positions 0, 1, …, 31, both results of the kernel are the reference's in every
    element. -/
theorem bitexact : letI := freshFacts; Cert.bitexact_Kernel_Reference_pre_fresh_prefill := by
  intro m ρ m' ρ' hpre hagree
  refine ⟨kOut (F := Bits) m, vOut (F := Bits) m,
    (θ_run Cert.KernelIdeal.defs _ _).mono (fun _ h c => h.1 c) (run_main (F := Bits) m ρ), ?_⟩
  refine (θ_run Cert.Reference.defs _ _).mono (fun _ h c => ?_) (Cert.Reference.Value.run (F := Bits) m' ρ')
  obtain ⟨hk, hv, hargs⟩ := h c
  obtain ⟨a0, a1, a2, a3, a4⟩ := hagree c
  obtain ⟨hp, fk, fv⟩ := of_fresh_prefill _ _ _ _ _ (hpre c)
  refine ⟨hk.trans ?_, hv.trans ?_, hargs⟩
  · rw [a0, a2, a3]
    exact (scatter_column _ _ _ _ hp _ _).trans (kernelOut_eq _ _ _ _ _ _ fk).symm
  · rw [a1, a2, a4]
    exact (scatter_column _ _ _ _ hp _ _).trans (kernelOut_eq _ _ _ _ _ _ fv).symm

/-- Over the extended reals, with the positions 0, 1, …, 31, both results of the kernel are the reference's in the rows
    that the positions name. -/
theorem algebraic : letI := positionsFacts; letI := newRowsFacts;
    Cert.algebraic_KernelIdeal_ReferenceIdeal_on_new_rows_pre_prefill_positions := by
  intro m ρ m' ρ' hpre hagree
  refine ⟨kOut (F := Ideal) m, vOut (F := Ideal) m,
    (θ_run Cert.KernelIdeal.defs _ _).mono (fun _ h c => ?_) (run_main (F := Ideal) m ρ), ?_⟩
  · exact ⟨fun i _ => congrFun (h.1 c).1 i, fun i _ => congrFun (h.1 c).2.1 i, (h.1 c).2.2⟩
  refine (θ_run Cert.ReferenceIdeal.defs _ _).mono (fun _ h c => ?_) (Cert.ReferenceIdeal.Value.run (F := Ideal) m' ρ')
  obtain ⟨hk, hv, hargs⟩ := h c
  obtain ⟨a0, a1, a2, a3, a4⟩ := hagree c
  have hp := of_prefill_positions (F := Ideal) _ _ _ _ _ (hpre c)
  refine ⟨fun i hi => (congrFun hk i).trans ?_, fun i hi => (congrFun hv i).trans ?_, hargs⟩
  · rw [a0, a2, a3]
    exact (congrFun (scatter_column _ _ _ _ hp _ _) i).trans
      (kernelOut_eq_of_lt _ _ _ _ _ i _ (lt_of_new_rows (F := Ideal) _ _ _ _ _ i (.inl hi))).symm
  · rw [a1, a2, a4]
    exact (congrFun (scatter_column _ _ _ _ hp _ _) i).trans
      (kernelOut_eq_of_lt _ _ _ _ _ i _ (lt_of_new_rows (F := Ideal) _ _ _ _ _ i (.inr hi))).symm

/-- Every claim. -/
theorem claim : Cert.Claim :=
  ⟨Cert.Kernel.Gen.facts, Cert.KernelIdeal.Gen.facts, Cert.Reference.Gen.facts, Cert.ReferenceIdeal.Gen.facts, freshFacts,
    positionsFacts, newRowsFacts, frame_kernel, fun m g _ => frame_kernel m g trivial, frame_kernelIdeal,
    fun m g _ => frame_kernelIdeal m g trivial, frame_reference, fun m g _ => frame_reference m g trivial, frame_referenceIdeal,
    fun m g _ => frame_referenceIdeal m g trivial, trivial, bitexact, algebraic⟩

end Cert.Proof

end
